-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pointer_not_negative [hPre_pointer_not_negative : Cert.Pre_pointer_not_negative.Facts] (m : (ℓ : Loc Cert.KernelIdeal.nD Cert.KernelIdeal.τ Cert.KernelIdeal.sig) → Buf (Elt Ideal) ℓ) : Prop :=
  ∀ c : Dev Cert.KernelIdeal.nD,
    (Cert.Pre_pointer_not_negative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pointer_not_negative [hPre_pointer_not_negative : Cert.Pre_pointer_not_negative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pointer_not_negative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_pointer_not_negative [hKernelIdeal : Cert.KernelIdeal.Facts] [hPre_pointer_not_negative : Cert.Pre_pointer_not_negative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pointer_not_negative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_pointer_not_negative [hReferenceIdeal : Cert.ReferenceIdeal.Facts] [hPre_pointer_not_negative : Cert.Pre_pointer_not_negative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pointer_not_negative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_pointer_not_negative [hKernelIdeal : Cert.KernelIdeal.Facts] [hReferenceIdeal : Cert.ReferenceIdeal.Facts] [hPre_pointer_not_negative : Cert.Pre_pointer_not_negative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pointer_not_negative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_pointer_not_negative : Cert.Pre_pointer_not_negative.Facts),
    quiescent_Kernel (hKernel := hKernel)
    ∧ quiescent_KernelIdeal (hKernelIdeal := hKernelIdeal)
    ∧ quiescent_KernelIdeal_pre_pointer_not_negative (hKernelIdeal := hKernelIdeal) (hPre_pointer_not_negative := hPre_pointer_not_negative)
    ∧ quiescent_ReferenceIdeal (hReferenceIdeal := hReferenceIdeal)
    ∧ quiescent_ReferenceIdeal_pre_pointer_not_negative (hReferenceIdeal := hReferenceIdeal) (hPre_pointer_not_negative := hPre_pointer_not_negative)
    ∧ preserves_Kernel_KernelIdeal
    ∧ algebraic_KernelIdeal_ReferenceIdeal_pre_pointer_not_negative (hKernelIdeal := hKernelIdeal) (hReferenceIdeal := hReferenceIdeal) (hPre_pointer_not_negative := hPre_pointer_not_negative)
-- ==== Pre_pointer_not_negative.lean ====
abbrev S262144x128 : Shape := ⟨2, ![262144, 128]⟩
abbrev S1 : Shape := ⟨1, ![1]⟩
abbrev S4096x128 : Shape := ⟨2, ![4096, 128]⟩
abbrev S_ : Shape := ⟨0, ![]⟩

class Facts : Prop where
  shapeCasts_S1_S_ : S1.ShapeCasts S_

variable [Facts]

def fn {F : FTy → Type} [FloatOps F] (main_arg0 : FVec F S262144x128 .f32) (main_arg1 : IVec S1 32) (main_arg2 : FVec F S4096x128 .f32) : IVec S_ 1 :=
  let main_v0 : IVec S_ 32 := shapeCast S_ main_arg1 shapeCasts_S1_S_
  let main_c : IVec S_ 32 := constantI S_ 32 0#32
  let main_v1 : IVec S_ 1 := cmpi .sge main_v0 main_c
  main_v1
-- ==== Kernel.lean ====
abbrev S262144x128 : Shape := ⟨2, ![262144, 128]⟩
abbrev S1 : Shape := ⟨1, ![1]⟩
abbrev S4096x128 : Shape := ⟨2, ![4096, 128]⟩
abbrev S114688x128 : Shape := ⟨2, ![114688, 128]⟩
abbrev S7 : Shape := ⟨1, ![7]⟩
abbrev S_ : Shape := ⟨0, ![]⟩
abbrev S4 : Shape := ⟨1, ![4]⟩
abbrev S8192x128 : Shape := ⟨2, ![8192, 128]⟩
abbrev S16384x128 : Shape := ⟨2, ![16384, 128]⟩

abbrev nBuf : Space → Nat
  | .hbm => 5
  | .vmem => 2
  | .smem => 2
  | _ => 0

abbrev bufTy : (tb : Table) → Fin (tcTables nBuf tb) → BufTy
  | .hbm, ⟨0, _⟩ => ⟨S262144x128, .f32⟩
  | .hbm, ⟨1, _⟩ => ⟨S1, .i32⟩
  | .hbm, ⟨2, _⟩ => ⟨S4096x128, .f32⟩
  | .hbm, ⟨3, _⟩ => ⟨S262144x128, .f32⟩
  | .hbm, ⟨4, _⟩ => ⟨S1, .i32⟩
  | .local _ .vmem, ⟨0, _⟩ => ⟨S114688x128, .f32⟩
  | .local _ .vmem, ⟨1, _⟩ => ⟨S4096x128, .f32⟩
  | .local _ .smem, ⟨0, _⟩ => ⟨S1, .i32⟩
  | .local _ .smem, ⟨1, _⟩ => ⟨S1, .i32⟩
  | _, _ => ⟨S262144x128, .f32⟩

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_scratch0 : Ref sig .tc := ⟨.vmem, 0, rfl⟩
abbrev cc0_scratch1 : Ref sig .tc := ⟨.vmem, 1, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_off1 (v0 : BitVec 32) (c32768_i32_13 : BitVec 32) (c0_i32_20 : BitVec 32) : Fin 2 → Nat :=
  let c258048_i32 : BitVec 32 := 258048#32
  let c0_i32 : BitVec 32 := 0#32
  let v1 : BitVec 32 := Scalar.maxsi c0_i32 v0
  let v2 : BitVec 32 := Scalar.minsi c258048_i32 v1
  let c0_i32_5 : BitVec 32 := 0#32
  let v16 : BitVec 1 := Scalar.cmpi .sgt v2 c0_i32_5
  let v17 : BitVec 32 := Scalar.extui v16
  let c0_i32_6 : BitVec 32 := 0#32
  let v18 : BitVec 1 := Scalar.cmpi .slt v2 c0_i32_6
  let v19 : BitVec 32 := Scalar.extui v18
  let v20 : BitVec 32 := Scalar.subi v17 v19
  let c16384_i32 : BitVec 32 := 16384#32
  let c0_i32_7 : BitVec 32 := 0#32
  let v21 : BitVec 1 := Scalar.cmpi .sgt c16384_i32 c0_i32_7
  let v22 : BitVec 32 := Scalar.extui v21
  let c0_i32_8 : BitVec 32 := 0#32
  let v23 : BitVec 1 := Scalar.cmpi .slt c16384_i32 c0_i32_8
  let v24 : BitVec 32 := Scalar.extui v23
  let v25 : BitVec 32 := Scalar.subi v22 v24
  let v26 : BitVec 1 := Scalar.cmpi .ne v20 v25
  let v27 : BitVec 32 := Scalar.remsi v2 c16384_i32
  let c0_i32_9 : BitVec 32 := 0#32
  let v28 : BitVec 1 := Scalar.cmpi .ne v27 c0_i32_9
  let v29 : BitVec 1 := Scalar.andi v26 v28
  let v15 : BitVec 32 := Scalar.divsi v2 c16384_i32
  let c1_i32_10 : BitVec 32 := 1#32
  let v30 : BitVec 32 := Scalar.subi v15 c1_i32_10
  let v31 : BitVec 32 := Scalar.select v29 v30 v15
  let c16384_i32_12 : BitVec 32 := 16384#32
  let v35 : BitVec 32 := Scalar.muli v31 c16384_i32_12
  let v36 : BitVec 32 := Scalar.addi v35 c32768_i32_13
  let c262144_i32_14 : BitVec 32 := 262144#32
  let c0_i32_15 : BitVec 32 := 0#32
  let v37 : BitVec 1 := Scalar.cmpi .eq c262144_i32_14 c0_i32_15
  let c1_i32_16 : BitVec 32 := 1#32
  let v38 : BitVec 32 := Scalar.select v37 c1_i32_16 c262144_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  let v47 : BitVec 32 := Scalar.addi v46 c0_i32_20
  let c0_i32_24 : BitVec 32 := 0#32
  ![v47.toNat, 0]

def k0_off2 (v0 : BitVec 32) (c49152_i32 : BitVec 32) (c0_i32_67 : BitVec 32) : Fin 2 → Nat :=
  let c258048_i32 : BitVec 32 := 258048#32
  let c0_i32 : BitVec 32 := 0#32
  let v1 : BitVec 32 := Scalar.maxsi c0_i32 v0
  let v2 : BitVec 32 := Scalar.minsi c258048_i32 v1
  let c0_i32_5 : BitVec 32 := 0#32
  let v16 : BitVec 1 := Scalar.cmpi .sgt v2 c0_i32_5
  let v17 : BitVec 32 := Scalar.extui v16
  let c0_i32_6 : BitVec 32 := 0#32
  let v18 : BitVec 1 := Scalar.cmpi .slt v2 c0_i32_6
  let v19 : BitVec 32 := Scalar.extui v18
  let v20 : BitVec 32 := Scalar.subi v17 v19
  let c16384_i32 : BitVec 32 := 16384#32
  let c0_i32_7 : BitVec 32 := 0#32
  let v21 : BitVec 1 := Scalar.cmpi .sgt c16384_i32 c0_i32_7
  let v22 : BitVec 32 := Scalar.extui v21
  let c0_i32_8 : BitVec 32 := 0#32
  let v23 : BitVec 1 := Scalar.cmpi .slt c16384_i32 c0_i32_8
  let v24 : BitVec 32 := Scalar.extui v23
  let v25 : BitVec 32 := Scalar.subi v22 v24
  let v26 : BitVec 1 := Scalar.cmpi .ne v20 v25
  let v27 : BitVec 32 := Scalar.remsi v2 c16384_i32
  let c0_i32_9 : BitVec 32 := 0#32
  let v28 : BitVec 1 := Scalar.cmpi .ne v27 c0_i32_9
  let v29 : BitVec 1 := Scalar.andi v26 v28
  let v15 : BitVec 32 := Scalar.divsi v2 c16384_i32
  let c1_i32_10 : BitVec 32 := 1#32
  let v30 : BitVec 32 := Scalar.subi v15 c1_i32_10
  let v31 : BitVec 32 := Scalar.select v29 v30 v15
  let c16384_i32_60 : BitVec 32 := 16384#32
  let v103 : BitVec 32 := Scalar.muli v31 c16384_i32_60
  let v104 : BitVec 32 := Scalar.addi v103 c49152_i32
  let c262144_i32_61 : BitVec 32 := 262144#32
  let c0_i32_62 : BitVec 32 := 0#32
  let v105 : BitVec 1 := Scalar.cmpi .eq c262144_i32_61 c0_i32_62
  let c1_i32_63 : BitVec 32 := 1#32
  let v106 : BitVec 32 := Scalar.select v105 c1_i32_63 c262144_i32_61
  let v107 : BitVec 32 := Scalar.remsi v104 v106
  let c0_i32_65 : BitVec 32 := 0#32
  let v109 : BitVec 1 := Scalar.cmpi .slt v107 c0_i32_65
  let c0_i32_66 : BitVec 32 := 0#32
  let v110 : BitVec 1 := Scalar.cmpi .slt v106 c0_i32_66
  let v111 : BitVec 1 := Scalar.xori v109 v110
  let c0_i32_64 : BitVec 32 := 0#32
  let v108 : BitVec 1 := Scalar.cmpi .ne v107 c0_i32_64
  let v112 : BitVec 1 := Scalar.andi v111 v108
  let v113 : BitVec 32 := Scalar.addi v107 v106
  let v114 : BitVec 32 := Scalar.select v112 v113 v107
  let v115 : BitVec 32 := Scalar.addi v114 c0_i32_67
  let c0_i32_71 : BitVec 32 := 0#32
  ![v115.toNat, 0]
def k0_off2_at (r : Fin 28) : BitVec 32 × BitVec 32 :=
  if r.val < 14 then
    if r.val < 7 then
      if r.val < 3 then
        if r.val < 1 then
          (49152#32, 0#32)
        else
          if r.val < 2 then
            (49152#32, 8192#32)
          else
            (0#32, 0#32)
      else
        if r.val < 5 then
          if r.val < 4 then
            (0#32, 8192#32)
          else
            (16384#32, 0#32)
        else
          if r.val < 6 then
            (16384#32, 8192#32)
          else
            (65536#32, 0#32)
    else
      if r.val < 10 then
        if r.val < 8 then
          (65536#32, 8192#32)
        else
          if r.val < 9 then
            (81920#32, 0#32)
          else
            (81920#32, 8192#32)
      else
        if r.val < 12 then
          if r.val < 11 then
            (98304#32, 0#32)
          else
            (98304#32, 8192#32)
        else
          if r.val < 13 then
            (114688#32, 0#32)
          else
            (114688#32, 8192#32)
  else
    if r.val < 21 then
      if r.val < 17 then
        if r.val < 15 then
          (131072#32, 0#32)
        else
          if r.val < 16 then
            (131072#32, 8192#32)
          else
            (147456#32, 0#32)
      else
        if r.val < 19 then
          if r.val < 18 then
            (147456#32, 8192#32)
          else
            (163840#32, 0#32)
        else
          if r.val < 20 then
            (163840#32, 8192#32)
          else
            (180224#32, 0#32)
    else
      if r.val < 24 then
        if r.val < 22 then
          (180224#32, 8192#32)
        else
          if r.val < 23 then
            (196608#32, 0#32)
          else
            (196608#32, 8192#32)
      else
        if r.val < 26 then
          if r.val < 25 then
            (212992#32, 0#32)
          else
            (212992#32, 8192#32)
        else
          if r.val < 27 then
            (229376#32, 0#32)
          else
            (229376#32, 8192#32)
def k0_off3 (v0 : BitVec 32) (c49152_i32_411 : BitVec 32) : Fin 2 → Nat :=
  let c258048_i32 : BitVec 32 := 258048#32
  let c0_i32 : BitVec 32 := 0#32
  let v1 : BitVec 32 := Scalar.maxsi c0_i32 v0
  let v2 : BitVec 32 := Scalar.minsi c258048_i32 v1
  let c0_i32_5 : BitVec 32 := 0#32
  let v16 : BitVec 1 := Scalar.cmpi .sgt v2 c0_i32_5
  let v17 : BitVec 32 := Scalar.extui v16
  let c0_i32_6 : BitVec 32 := 0#32
  let v18 : BitVec 1 := Scalar.cmpi .slt v2 c0_i32_6
  let v19 : BitVec 32 := Scalar.extui v18
  let v20 : BitVec 32 := Scalar.subi v17 v19
  let c16384_i32 : BitVec 32 := 16384#32
  let c0_i32_7 : BitVec 32 := 0#32
  let v21 : BitVec 1 := Scalar.cmpi .sgt c16384_i32 c0_i32_7
  let v22 : BitVec 32 := Scalar.extui v21
  let c0_i32_8 : BitVec 32 := 0#32
  let v23 : BitVec 1 := Scalar.cmpi .slt c16384_i32 c0_i32_8
  let v24 : BitVec 32 := Scalar.extui v23
  let v25 : BitVec 32 := Scalar.subi v22 v24
  let v26 : BitVec 1 := Scalar.cmpi .ne v20 v25
  let v27 : BitVec 32 := Scalar.remsi v2 c16384_i32
  let c0_i32_9 : BitVec 32 := 0#32
  let v28 : BitVec 1 := Scalar.cmpi .ne v27 c0_i32_9
  let v29 : BitVec 1 := Scalar.andi v26 v28
  let v15 : BitVec 32 := Scalar.divsi v2 c16384_i32
  let c1_i32_10 : BitVec 32 := 1#32
  let v30 : BitVec 32 := Scalar.subi v15 c1_i32_10
  let v31 : BitVec 32 := Scalar.select v29 v30 v15
  let c16384_i32_410 : BitVec 32 := 16384#32
  let v579 : BitVec 32 := Scalar.muli v31 c16384_i32_410
  let v580 : BitVec 32 := Scalar.addi v579 c49152_i32_411
  let c262144_i32_412 : BitVec 32 := 262144#32
  let c0_i32_413 : BitVec 32 := 0#32
  let v581 : BitVec 1 := Scalar.cmpi .eq c262144_i32_412 c0_i32_413
  let c1_i32_414 : BitVec 32 := 1#32
  let v582 : BitVec 32 := Scalar.select v581 c1_i32_414 c262144_i32_412
  let v583 : BitVec 32 := Scalar.remsi v580 v582
  let c0_i32_416 : BitVec 32 := 0#32
  let v585 : BitVec 1 := Scalar.cmpi .slt v583 c0_i32_416
  let c0_i32_417 : BitVec 32 := 0#32
  let v586 : BitVec 1 := Scalar.cmpi .slt v582 c0_i32_417
  let v587 : BitVec 1 := Scalar.xori v585 v586
  let c0_i32_415 : BitVec 32 := 0#32
  let v584 : BitVec 1 := Scalar.cmpi .ne v583 c0_i32_415
  let v588 : BitVec 1 := Scalar.andi v587 v584
  let v589 : BitVec 32 := Scalar.addi v583 v582
  let v590 : BitVec 32 := Scalar.select v588 v589 v583
  let c0_i32_418 : BitVec 32 := 0#32
  let v591 : BitVec 32 := Scalar.addi v590 c0_i32_418
  let c0_i32_420 : BitVec 32 := 0#32
  ![v591.toNat, 0]
def k0_off3_at (r : Fin 14) : BitVec 32 :=
  if r.val < 7 then
    if r.val < 3 then
      if r.val < 1 then
        49152#32
      else
        if r.val < 2 then
          0#32
        else
          16384#32
    else
      if r.val < 5 then
        if r.val < 4 then
          65536#32
        else
          81920#32
      else
        if r.val < 6 then
          98304#32
        else
          114688#32
  else
    if r.val < 10 then
      if r.val < 8 then
        131072#32
      else
        if r.val < 9 then
          147456#32
        else
          163840#32
    else
      if r.val < 12 then
        if r.val < 11 then
          180224#32
        else
          196608#32
      else
        if r.val < 13 then
          212992#32
        else
          229376#32
def k0_off4 (v0 : BitVec 32) : Fin 2 → Nat :=
  let c32768_i32 : BitVec 32 := 32768#32
  let c258048_i32 : BitVec 32 := 258048#32
  let c0_i32 : BitVec 32 := 0#32
  let v1 : BitVec 32 := Scalar.maxsi c0_i32 v0
  let v2 : BitVec 32 := Scalar.minsi c258048_i32 v1
  let c0_i32_5 : BitVec 32 := 0#32
  let v16 : BitVec 1 := Scalar.cmpi .sgt v2 c0_i32_5
  let v17 : BitVec 32 := Scalar.extui v16
  let c0_i32_6 : BitVec 32 := 0#32
  let v18 : BitVec 1 := Scalar.cmpi .slt v2 c0_i32_6
  let v19 : BitVec 32 := Scalar.extui v18
  let v20 : BitVec 32 := Scalar.subi v17 v19
  let c16384_i32 : BitVec 32 := 16384#32
  let c0_i32_7 : BitVec 32 := 0#32
  let v21 : BitVec 1 := Scalar.cmpi .sgt c16384_i32 c0_i32_7
  let v22 : BitVec 32 := Scalar.extui v21
  let c0_i32_8 : BitVec 32 := 0#32
  let v23 : BitVec 1 := Scalar.cmpi .slt c16384_i32 c0_i32_8
  let v24 : BitVec 32 := Scalar.extui v23
  let v25 : BitVec 32 := Scalar.subi v22 v24
  let v26 : BitVec 1 := Scalar.cmpi .ne v20 v25
  let v27 : BitVec 32 := Scalar.remsi v2 c16384_i32
  let c0_i32_9 : BitVec 32 := 0#32
  let v28 : BitVec 1 := Scalar.cmpi .ne v27 c0_i32_9
  let v29 : BitVec 1 := Scalar.andi v26 v28
  let v15 : BitVec 32 := Scalar.divsi v2 c16384_i32
  let c1_i32_10 : BitVec 32 := 1#32
  let v30 : BitVec 32 := Scalar.subi v15 c1_i32_10
  let v31 : BitVec 32 := Scalar.select v29 v30 v15
  let c16384_i32_11 : BitVec 32 := 16384#32
  let v32 : BitVec 32 := Scalar.muli v31 c16384_i32_11
  let v33 : BitVec 32 := Scalar.subi v2 v32
  let v34 : BitVec 32 := Scalar.addi c32768_i32 v33
  let c0_i32_513 : BitVec 32 := 0#32
  ![v34.toNat, 0]

def k0_chk1 (v0 : BitVec 32) : Prop :=
  (∀ (r₁ : Fin 2) (r₂ : Fin 4), ∀ a, (k0_off1 v0 (BitVec.ofNat 32 (32768 + 212992 * r₁.val)) (BitVec.ofNat 32 (4096 * r₂.val))) a + S4096x128.size a ≤ S262144x128.size a) ∧
  (∀ (r : Fin 28), ∀ a, (k0_off2 v0 (k0_off2_at r).1 (k0_off2_at r).2) a + S8192x128.size a ≤ S262144x128.size a) ∧
  (∀ (r : Fin 14), ∀ a, (k0_off3 v0 (k0_off3_at r)) a + S16384x128.size a ≤ S262144x128.size a) ∧
  (∀ a, (k0_off4 v0) a + S4096x128.size a ≤ S114688x128.size a)
theorem k0_off1_inb : ∀ (v0 : BitVec 32) (k0_hw1 : k0_chk1 v0), ∀ (r₁ : Fin 2) (r₂ : Fin 4), ∀ a, (k0_off1 v0 (BitVec.ofNat 32 (32768 + 212992 * r₁.val)) (BitVec.ofNat 32 (4096 * r₂.val))) a + S4096x128.size a ≤ S262144x128.size a := fun v0 k0_hw1 r₁ r₂ => k0_hw1.1 r₁ r₂
theorem k0_off2_inb : ∀ (v0 : BitVec 32) (k0_hw1 : k0_chk1 v0), ∀ (r : Fin 28), ∀ a, (k0_off2 v0 (k0_off2_at r).1 (k0_off2_at r).2) a + S8192x128.size a ≤ S262144x128.size a := fun v0 k0_hw1 r => k0_hw1.2.1 r
theorem k0_off3_inb : ∀ (v0 : BitVec 32) (k0_hw1 : k0_chk1 v0), ∀ (r : Fin 14), ∀ a, (k0_off3 v0 (k0_off3_at r)) a + S16384x128.size a ≤ S262144x128.size a := fun v0 k0_hw1 r => k0_hw1.2.2.1 r
theorem k0_off4_inb : ∀ (v0 : BitVec 32) (k0_hw1 : k0_chk1 v0), ∀ a, (k0_off4 v0) a + S4096x128.size a ≤ S114688x128.size a := fun v0 k0_hw1 => k0_hw1.2.2.2

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S262144x128 : Shape := ⟨2, ![262144, 128]⟩
abbrev S1 : Shape := ⟨1, ![1]⟩
abbrev S4096x128 : Shape := ⟨2, ![4096, 128]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S1, .i32⟩
  | .hbm, ⟨2, _⟩ => ⟨S4096x128, .f32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S262144x128, .f32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i1⟩
  | .hbm, ⟨26, _⟩ => ⟨S_, .i1⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S1, .i32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_c_2 : Ref sig .tc := ⟨.hbm, 11, rfl⟩
abbrev main_v5 : Ref sig .tc := ⟨.hbm, 12, rfl⟩
abbrev main_c_3 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_c_1 : Ref sig .tc := ⟨.hbm, 20, rfl⟩
abbrev main_call0_v4 : Ref sig .tc := ⟨.hbm, 21, rfl⟩
abbrev main_call0_c_2 : Ref sig .tc := ⟨.hbm, 22, rfl⟩
abbrev main_call0_v5 : Ref sig .tc := ⟨.hbm, 23, rfl⟩
abbrev main_call0_c_3 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_v6 : Ref sig .tc := ⟨.hbm, 29, rfl⟩
abbrev main_v7 : Ref sig .tc := ⟨.hbm, 30, rfl⟩

abbrev nD : Nat := 1
abbrev τ : Topo := Topo.v7x

variable {F : FTy → Type} [FloatOps F]
-- ==== Proof.Prog.lean ====
/- The kernel's body as a short program. The printed body computes its offsets by long chains of word operations between
   its transfers; here the transfers alone are listed, grouped by chunk, and the two programs are equal by unfolding. -/
module

public import proofs.«01_k».proof.Proof.Gen.Kernel.Frame

@[expose] public section

noncomputable section

namespace Cert.Kernel.Hand

open Cert.Kernel Cert.Kernel.Gen
open Idealize.ShloMosaic Idealize.ShloMosaic.TcCoe
open Idealize.SL.Sem

variable {F : FTy → Type} [FloatOps F]

/-! ## The buffers -/

/-- The queue argument, in HBM. -/
abbrev qM : Memref sig .tc .hbm S262144x128 .f32 := Memref.whole main_arg0
/-- The embeddings argument, in HBM. -/
abbrev eM : Memref sig .tc .hbm S4096x128 .f32 := Memref.whole main_arg2
/-- The queue result, in HBM. -/
abbrev oM : Memref sig .tc .hbm S262144x128 .f32 := Memref.whole main_v0_0
/-- The seven slots of 16384 rows. -/
abbrev bM : Memref sig .tc .vmem S114688x128 .f32 := Memref.whole cc0_scratch0
/-- The staged embeddings. -/
abbrev ebM : Memref sig .tc .vmem S4096x128 .f32 := Memref.whole cc0_scratch1

/-! ## The transfers' ends -/

/-- The slot of the chunk at position `r + 1` of the schedule (positions 0 and 15 are the split chunks). -/
abbrev slotM (r : Fin 14) : ℕ := (r.val + 1) % 7
/-- The slot of a split chunk. -/
abbrev slotS (u : Fin 2) : ℕ := u.val

/-- A split chunk's slot is one of the seven. -/
theorem slotS_lt (u : Fin 2) : slotS u < 7 := Nat.lt_trans u.isLt (by decide)

/-- A chunk's slot is one of the seven. -/
theorem slotM_lt (r : Fin 14) : slotM r < 7 := Nat.mod_lt _ (by decide)
/-- The rows of half of a chunk's slot lie in the slots. -/
theorem half_le (r : Fin 14) (h : Fin 2) : slotM r * 16384 + h.val * 8192 + 8192 ≤ 114688 := by have := slotM_lt r; omega
/-- The rows of a chunk's slot lie in the slots. -/
theorem chunk_le (r : Fin 14) : slotM r * 16384 + 16384 ≤ 114688 := by have := slotM_lt r; omega
/-- The rows of a quarter of a split chunk's slot lie in the slots. -/
theorem quarter_le (u : Fin 2) (k : Fin 4) : slotS u * 16384 + k.val * 4096 + 4096 ≤ 114688 := by have := u.isLt; have := k.isLt; unfold slotS; omega

/-- Rows `a, …, a + n - 1` of the slots. -/
abbrev bufRows (a n : ℕ) (h : a + n ≤ 114688) : Memref sig .tc .vmem ⟨2, ![n, 128]⟩ .f32 :=
  bM.slice (Rect.unit (s := S114688x128) ![a, 0] ![n, 128] (fun | 0 => h | 1 => Nat.le_refl 128)) (fun _ => rfl)

variable (v0 : BitVec 32) (hw : k0_chk1 v0)

/-- Half `h` of the HBM rows of chunk `r + 1`, in the queue. -/
abbrev qHalf (r : Fin 14) (h : Fin 2) : Memref sig .tc .hbm S8192x128 .f32 :=
  qM.slice (Rect.unit (s := S262144x128)
    (k0_off2 v0 (k0_off2_at ⟨2 * r.val + h.val, by omega⟩).1 (k0_off2_at ⟨2 * r.val + h.val, by omega⟩).2) S8192x128.size
    (k0_off2_inb v0 hw ⟨2 * r.val + h.val, by omega⟩)) (fun _ => rfl)
/-- Half `h` of the slot of chunk `r + 1`. -/
abbrev bHalf (r : Fin 14) (h : Fin 2) : Memref sig .tc .vmem S8192x128 .f32 :=
  bufRows (slotM r * 16384 + h.val * 8192) 8192 (half_le r h)
/-- The HBM rows of chunk `r + 1` in the result. -/
abbrev oChunk (r : Fin 14) : Memref sig .tc .hbm S16384x128 .f32 :=
  oM.slice (Rect.unit (s := S262144x128) (k0_off3 v0 (k0_off3_at r)) S16384x128.size (k0_off3_inb v0 hw r)) (fun _ => rfl)
/-- The slot of chunk `r + 1`. -/
abbrev bChunk (r : Fin 14) : Memref sig .tc .vmem S16384x128 .f32 := bufRows (slotM r * 16384) 16384 (chunk_le r)
/-- Quarter `k` of split chunk `u`, in a buffer of the queue's shape. -/
abbrev hQuarter (M : Memref sig .tc .hbm S262144x128 .f32) (u : Fin 2) (k : Fin 4) : Memref sig .tc .hbm S4096x128 .f32 :=
  M.slice (Rect.unit (s := S262144x128) (k0_off1 v0 (BitVec.ofNat 32 (32768 + 212992 * u.val)) (BitVec.ofNat 32 (4096 * k.val)))
    S4096x128.size (k0_off1_inb v0 hw u k)) (fun _ => rfl)
/-- Quarter `k` of the slot of split chunk `u`. -/
abbrev bQuarter (u : Fin 2) (k : Fin 4) : Memref sig .tc .vmem S4096x128 .f32 :=
  bufRows (slotS u * 16384 + k.val * 4096) 4096 (quarter_le u k)
/-- The rows of the slots that the embeddings replace. -/
abbrev bSplice : Memref sig .tc .vmem S4096x128 .f32 :=
  bM.slice (Rect.unit (s := S114688x128) (k0_off4 v0) S4096x128.size (k0_off4_inb v0 hw)) (fun _ => rfl)

/-! ## The semaphores -/

/-- The semaphore on which slot `s` is filled. -/
abbrev inSem (s : ℕ) (h : s < 7) : DmaSem sig :=
  ((cc0_scratch2.slice (Rect.unit (s := S7) ![s] S1.size (fun | 0 => h))).squeeze S_ squeezes_S1_S_).sem
/-- The semaphore on which slot `s` is emptied. -/
abbrev outSem (s : ℕ) (h : s < 7) : DmaSem sig :=
  ((cc0_scratch3.slice (Rect.unit (s := S7) ![s] S1.size (fun | 0 => h))).squeeze S_ squeezes_S1_S_).sem
/-- The semaphore of the embeddings' copies. -/
abbrev embSem : DmaSem sig := cc0_scratch4.sem
/-- The semaphore on which quarter `k` of a split chunk comes in. -/
abbrev fillSem (k : Fin 4) : DmaSem sig :=
  ((cc0_scratch5.slice (Rect.unit (s := S4) ![k.val] S1.size (fun | 0 => k.isLt))).squeeze S_ squeezes_S1_S_).sem

/-! ## The program -/

/-- A program of the kernel's that returns nothing. -/
local notation "Act" => Prog (TpuEff nD τ sig (Elt F) Λ₀ Proc.tc) PUnit

/-- Start the copy of `src` into `dst` on semaphore `s`. -/
abbrev startCopy {sp sp' : Space} {n : ℕ} (src : Memref sig .tc sp ⟨2, ![n, 128]⟩ .f32) (dst : Memref sig (Proc.kind Proc.tc) sp' ⟨2, ![n, 128]⟩ .f32) (s : DmaSem sig)
    (hl : DmaTarget.HostLowered (nD := nD) (τ := τ) sp (SemLoc.dma s) (DmaTarget.here dst) := by exact trivial) : Act :=
  Prog.lift (.enqueueDma src (.here dst) (.dma s) (View.wordExact_bits rfl) (View.wordExact_bits rfl) ⟨Or.inl rfl, hl⟩)
/-- Wait for the copy of `src` into `dst` on semaphore `s`. -/
abbrev waitCopy {sp sp' : Space} {n : ℕ} (src : Memref sig .tc sp ⟨2, ![n, 128]⟩ .f32) (dst : Memref sig .tc sp' ⟨2, ![n, 128]⟩ .f32) (s : DmaSem sig) : Act :=
  Prog.lift (.waitDma2 s src dst (View.wordExact_bits rfl) (View.wordExact_bits rfl))

/-- Start the two halves of chunk `r + 1` in. -/
def startIn (r : Fin 14) : Act := do
  startCopy (qHalf v0 hw r 0) (bHalf r 0) (inSem (slotM r) (slotM_lt r))
  startCopy (qHalf v0 hw r 1) (bHalf r 1) (inSem (slotM r) (slotM_lt r))
/-- Wait for the two halves of chunk `r + 1`. -/
def waitIn (r : Fin 14) : Act := do
  waitCopy (qHalf v0 hw r 0) (bHalf r 0) (inSem (slotM r) (slotM_lt r))
  waitCopy (qHalf v0 hw r 1) (bHalf r 1) (inSem (slotM r) (slotM_lt r))
/-- Start the copy of chunk `r + 1` out. -/
def startOut (r : Fin 14) : Act := startCopy (bChunk r) (oChunk v0 hw r) (outSem (slotM r) (slotM_lt r))
/-- Wait for the copy of chunk `r + 1` out. -/
def waitOut (r : Fin 14) : Act := waitCopy (bChunk r) (oChunk v0 hw r) (outSem (slotM r) (slotM_lt r))

/-- Start quarter `k` of split chunk `u` in. -/
def startInQ (u : Fin 2) (k : Fin 4) : Act := startCopy (hQuarter v0 hw qM u k) (bQuarter u k) (fillSem k)
/-- Wait for quarter `k` of split chunk `u` and start it out. -/
def turnQ (u : Fin 2) (k : Fin 4) : Act := do
  waitCopy (hQuarter v0 hw qM u k) (bQuarter u k) (fillSem k)
  startCopy (bQuarter u k) (hQuarter v0 hw oM u k) (outSem (slotS u) (slotS_lt u))
/-- Wait for quarter `k` of split chunk `u` to be out. -/
def waitOutQ (u : Fin 2) (k : Fin 4) : Act := waitCopy (bQuarter u k) (hQuarter v0 hw oM u k) (outSem (slotS u) (slotS_lt u))

/-- An action for each of the four quarters. -/
def each4 (f : Fin 4 → Act) : Act := do f 0; f 1; f 2; f 3

/-- Start the embeddings into their staging buffer. -/
def startEmb : Act := startCopy eM ebM embSem
/-- Wait for the staged embeddings and copy them over the rows they replace. -/
def splice : Act := do
  waitCopy eM ebM embSem
  startCopy ebM (bSplice v0 hw) embSem
  waitCopy ebM (bSplice v0 hw) embSem

/-- A chunk through its slot and the next chunk started into it. -/
def pass (r r' : Fin 14) : Act := do startOut v0 hw r; waitOut v0 hw r; startIn v0 hw r'

/-- The transfers after the words are read and the new pointer stored. -/
def transfers : Act := do
  startEmb
  each4 (startInQ v0 hw 0)
  startIn v0 hw 0; startIn v0 hw 1; startIn v0 hw 2; startIn v0 hw 3; startIn v0 hw 4; startIn v0 hw 5
  each4 (turnQ v0 hw 0)
  each4 (waitOutQ v0 hw 0); startIn v0 hw 6
  waitIn v0 hw 0; pass v0 hw 0 7
  waitIn v0 hw 1; waitIn v0 hw 2; splice v0 hw; pass v0 hw 1 8
  pass v0 hw 2 9
  waitIn v0 hw 3; pass v0 hw 3 10
  waitIn v0 hw 4; pass v0 hw 4 11
  waitIn v0 hw 5; pass v0 hw 5 12
  waitIn v0 hw 6; pass v0 hw 6 13
  waitIn v0 hw 7; startOut v0 hw 7; waitOut v0 hw 7; each4 (startInQ v0 hw 1)
  waitIn v0 hw 8; startOut v0 hw 8
  waitIn v0 hw 9; startOut v0 hw 9
  waitIn v0 hw 10; startOut v0 hw 10
  waitIn v0 hw 11; startOut v0 hw 11
  waitIn v0 hw 12; startOut v0 hw 12
  waitIn v0 hw 13; startOut v0 hw 13
  each4 (turnQ v0 hw 1)
  waitOut v0 hw 8; waitOut v0 hw 9; waitOut v0 hw 10; waitOut v0 hw 11; waitOut v0 hw 12; waitOut v0 hw 13
  each4 (waitOutQ v0 hw 1)

/-- `x` modulo `n` with the sign of `n`, by the remainder and a correction. -/
def floorMod (x n : BitVec 32) : BitVec 32 :=
  Scalar.select (Scalar.andi (Scalar.xori (Scalar.cmpi .slt (Scalar.remsi x n) 0#32) (Scalar.cmpi .slt n 0#32))
    (Scalar.cmpi .ne (Scalar.remsi x n) 0#32)) (Scalar.addi (Scalar.remsi x n) n) (Scalar.remsi x n)

/-- The new pointer's word. -/
def newPtr : BitVec 32 :=
  floorMod (Scalar.addi v0 4096#32) (Scalar.select (Scalar.cmpi .eq 262144#32 0#32) 1#32 262144#32)

/-- The body: the pointer read, the new pointer stored, the transfers. -/
def prog (arg0 arg4 : Memref sig .tc .smem S1 .i32) : Act := do
  let w : Elt F .i32 ← smemLoad arg0 (Rect.unit (s := S1) ![0] S1.size inb_S1_S1_0) numel1_S1 rfl
  have hw : k0_chk1 w := (← Prog.lift (TpuEff.assume (k0_chk1 w) (k0_chk1.dec w))).down
  let _ : Elt F .i32 ← smemLoad arg4 (Rect.unit (s := S1) ![0] S1.size inb_S1_S1_0) numel1_S1 rfl
  Prog.lift (.store arg4 (Rect.unit (s := S1) ![0] S1.size inb_S1_S1_0) (fun _ => newPtr w) Finset.univ (View.stores_smem_one rfl numel1_S1) (.inl rfl))
  transfers w hw

set_option maxRecDepth 200000 in
set_option maxHeartbeats 4000000 in
/-- The printed body is the short program: by unfolding. -/
theorem body_eq (arg0 arg4 : Memref sig .tc .smem S1 .i32) (h0 : arg0.IsWhole) (h4 : arg4.IsWhole) :
    cc0__body (F := F) arg0 h0 qM (Memref.isWhole_whole _) eM (Memref.isWhole_whole _) oM (Memref.isWhole_whole _) arg4 h4
      bM (Memref.isWhole_whole _) ebM (Memref.isWhole_whole _) cc0_scratch2 cc0_scratch3 cc0_scratch4 cc0_scratch5 = prog arg0 arg4 := by
  chain_rfl

end Cert.Kernel.Hand

end
-- ==== Proof.Words.lean ====
/- The offsets as numbers. Every transfer's HBM offset is the same chain of word operations at two words; here the chain is
   named once and read as an integer, so the offsets' closed forms and their ranges hold for every pointer word. -/
module

public import proofs.«01_k».proof.Proof.Prog
public import Idealize.ShloMosaic.Lib.Affine

@[expose] public section

noncomputable section

namespace Cert.Kernel.Hand

open Cert.Kernel Cert.Kernel.Gen
open Idealize.ShloMosaic Idealize.ShloMosaic.Affine

/-- The pointer's word clamped between 0 and 258048, as the body clamps it, and as a number. -/
def clampW (v0 : BitVec 32) : BitVec 32 := Scalar.minsi 258048#32 (Scalar.maxsi 0#32 v0)
/-- The clamped pointer as a number. -/
def ptrN (v0 : BitVec 32) : ℕ := (min 258048 (max 0 v0.toInt)).toNat

/-- The clamped pointer leaves room for the embeddings. -/
theorem ptrN_le (v0 : BitVec 32) : ptrN v0 ≤ 258048 := by unfold ptrN; omega

/-- The clamped pointer's word reads as its number. -/
theorem clampW_int (v0 : BitVec 32) : IsInt (clampW v0) (ptrN v0) :=
  minsi (ofNat 258048 ⟨rfl, by decide⟩) (maxsi (ofNat 0 ⟨rfl, by decide⟩) (word v0) rfl) (by unfold ptrN; omega)

/-- The quotient by 16384, rounded down, as the body computes it: the quotient with a correction for signs that differ. -/
def blockW (x : BitVec 32) : BitVec 32 :=
  Scalar.select
    (Scalar.andi
      (Scalar.cmpi .ne (Scalar.subi (Scalar.extui (Scalar.cmpi .sgt x 0#32)) (Scalar.extui (Scalar.cmpi .slt x 0#32)))
        (Scalar.subi (Scalar.extui (Scalar.cmpi .sgt 16384#32 0#32)) (Scalar.extui (Scalar.cmpi .slt 16384#32 0#32))))
      (Scalar.cmpi .ne (Scalar.remsi x 16384#32) 0#32))
    (Scalar.subi (Scalar.divsi x 16384#32) 1#32) (Scalar.divsi x 16384#32)

/-- The quotient's word reads as the quotient. -/
theorem blockW_int {x : BitVec 32} {n : ℕ} (hx : IsInt x n) (hn : n ≤ 258048) : IsInt (blockW x) ((n / 16384 : ℕ) : ℤ) := by
  have hz : IsInt 0#32 0 := ofNat 0 ⟨rfl, by decide⟩
  have hk : IsInt 16384#32 16384 := ofNat 16384 ⟨rfl, by decide⟩
  have hd : IsInt (Scalar.divsi x 16384#32) ((n / 16384 : ℕ) : ℤ) := divsi hx hk ⟨by omega, by omega, by omega⟩
  have h1 : IsInt (Scalar.subi (Scalar.divsi x 16384#32) 1#32) (((n / 16384 : ℕ) : ℤ) - 1) :=
    subi hd (ofNat 1 ⟨rfl, by decide⟩) ⟨rfl, by omega, by omega⟩
  refine select_fails ?_ h1 hd rfl
  have hr : IsInt (Scalar.remsi x 16384#32) ((n : ℤ) % 16384) := remsi hx hk ⟨rfl, by omega, by omega⟩
  by_cases h0 : n = 0
  · exact andi_fails_right trivial (ne_fails hr hz (by subst h0; rfl))
  · refine andi_fails_left (ne_fails (subi (extui_holds (sgt_holds hx hz (by omega)) rfl) (extui_fails (slt_fails hx hz (by omega)) rfl) (e := 1) (by omega)) (subi (extui_holds (sgt_holds hk hz (by omega)) rfl) (extui_fails (slt_fails hk hz (by omega)) rfl) (e := 1) (by omega)) rfl) trivial

/-- The remainder by 262144 of a word that reads nonnegative: the correction for signs does nothing. -/
theorem floorMod_int {x y : BitVec 32} {n : ℕ} (hx : IsInt x n) (hy : IsInt y 262144) :
    IsInt (floorMod x y) ((n % 262144 : ℕ) : ℤ) := by
  have hz : IsInt 0#32 0 := ofNat 0 ⟨rfl, by decide⟩
  have hr : IsInt (Scalar.remsi x y) ((n % 262144 : ℕ) : ℤ) := remsi hx hy ⟨by omega, by omega, by omega⟩
  exact select_fails (andi_fails_left (xori_ff (slt_fails hr hz (by omega)) (slt_fails hy hz (by omega))) trivial)
    (addi hr hy ⟨rfl, by omega, by omega⟩) hr rfl

/-- The chain behind every HBM offset: the pointer's chunk, `rel` rows on, around the queue's end, `h` rows on. -/
def offW (v0 rel h : BitVec 32) : BitVec 32 :=
  Scalar.addi (floorMod (Scalar.addi (Scalar.muli (blockW (clampW v0)) 16384#32) rel)
    (Scalar.select (Scalar.cmpi .eq 262144#32 0#32) 1#32 262144#32)) h

/-- The offset of a quarter is the chain of word operations at its two words. -/
theorem k0_off1_eq (v0 rel h : BitVec 32) : k0_off1 v0 rel h = ![(offW v0 rel h).toNat, 0] := rfl
/-- The offset of a half is the chain of word operations at its two words. -/
theorem k0_off2_eq (v0 rel h : BitVec 32) : k0_off2 v0 rel h = ![(offW v0 rel h).toNat, 0] := rfl
/-- The offset of a chunk is the chain of word operations at its word. -/
theorem k0_off3_eq (v0 rel : BitVec 32) : k0_off3 v0 rel = ![(offW v0 rel 0#32).toNat, 0] := rfl
/-- The offset of the splice, from the clamped pointer and its chunk. -/
theorem k0_off4_eq (v0 : BitVec 32) :
    k0_off4 v0 = ![(Scalar.addi 32768#32 (Scalar.subi (clampW v0) (Scalar.muli (blockW (clampW v0)) 16384#32))).toNat, 0] := rfl

/-- The first row of the chunk that lies `rel` rows after the pointer's chunk, around the queue's end. -/
def baseN (v0 : BitVec 32) (rel : ℕ) : ℕ := (ptrN v0 / 16384 * 16384 + rel) % 262144

/-- The chain of word operations, as a number: the chunk's first row and `h` more. -/
theorem offW_toNat (v0 : BitVec 32) (rel h : ℕ) (hrel : rel ≤ 262144) (hh : h ≤ 16384) :
    (offW v0 (BitVec.ofNat 32 rel) (BitVec.ofNat 32 h)).toNat = baseN v0 rel + h := by
  have hp := ptrN_le v0
  have hb := blockW_int (clampW_int v0) hp
  have hm : IsInt (Scalar.muli (blockW (clampW v0)) 16384#32) ((ptrN v0 / 16384 * 16384 : ℕ) : ℤ) :=
    muli hb (ofNat 16384 ⟨rfl, by decide⟩) ⟨by omega, by omega, by omega⟩
  have ha : IsInt (Scalar.addi (Scalar.muli (blockW (clampW v0)) 16384#32) (BitVec.ofNat 32 rel)) ((ptrN v0 / 16384 * 16384 + rel : ℕ) : ℤ) :=
    addi hm (ofNat rel ⟨rfl, by omega⟩) ⟨by omega, by omega, by omega⟩
  have hy : IsInt (Scalar.select (Scalar.cmpi .eq 262144#32 0#32) 1#32 262144#32) 262144 :=
    select_fails (eq_fails (ofNat 262144 ⟨rfl, by decide⟩) (ofNat 0 ⟨rfl, by decide⟩) (by decide)) (ofNat 1 ⟨rfl, by decide⟩) (ofNat 262144 ⟨rfl, by decide⟩) rfl
  exact nat_eq (addi (floorMod_int ha hy) (ofNat h ⟨rfl, by omega⟩) (e := ((baseN v0 rel + h : ℕ) : ℤ)) ⟨by unfold baseN; omega, by omega, by unfold baseN; omega⟩) _ rfl

/-- The row of the splice in the slots. -/
theorem splice_toNat (v0 : BitVec 32) :
    (Scalar.addi 32768#32 (Scalar.subi (clampW v0) (Scalar.muli (blockW (clampW v0)) 16384#32))).toNat = 32768 + ptrN v0 % 16384 := by
  have hp := ptrN_le v0
  have hb := blockW_int (clampW_int v0) hp
  have hm : IsInt (Scalar.muli (blockW (clampW v0)) 16384#32) ((ptrN v0 / 16384 * 16384 : ℕ) : ℤ) :=
    muli hb (ofNat 16384 ⟨rfl, by decide⟩) ⟨by omega, by omega, by omega⟩
  have hs : IsInt (Scalar.subi (clampW v0) (Scalar.muli (blockW (clampW v0)) 16384#32)) ((ptrN v0 % 16384 : ℕ) : ℤ) :=
    subi (clampW_int v0) hm ⟨by omega, by omega, by omega⟩
  exact nat_eq (addi (ofNat 32768 ⟨rfl, by decide⟩) hs (e := ((32768 + ptrN v0 % 16384 : ℕ) : ℤ)) ⟨by omega, by omega, by omega⟩) _ rfl

/-! ## The schedule -/

/-- The chunk at position `r + 1` of the schedule (positions 0 and 15 are the split chunks), counted from the pointer's. -/
def relM (r : Fin 14) : ℕ := if r.val = 0 then 49152 else if r.val ≤ 2 then (r.val - 1) * 16384 else (r.val + 1) * 16384
/-- The split chunk `u`, counted from the pointer's. -/
def relS (u : Fin 2) : ℕ := 32768 + 212992 * u.val

/-- The printed words of the chunks' offsets are the schedule's distances. -/
theorem off3_at_eq : ∀ r : Fin 14, k0_off3_at r = BitVec.ofNat 32 (relM r) := by decide
/-- The printed words of the halves' offsets are the schedule's distances and the halves' rows. -/
theorem off2_at_eq : ∀ (r : Fin 14) (h : Fin 2), k0_off2_at ⟨2 * r.val + h.val, by omega⟩ = (BitVec.ofNat 32 (relM r), BitVec.ofNat 32 (h.val * 8192)) := by decide

/-- No chunk of one slot lies further than fourteen chunks on. -/
theorem relM_le : ∀ r : Fin 14, relM r ≤ 229376 := by decide

/-- The first row of chunk `r + 1`, and of split chunk `u`. -/
def baseM (v0 : BitVec 32) (r : Fin 14) : ℕ := baseN v0 (relM r)
/-- The first row of split chunk `u`. -/
def baseS (v0 : BitVec 32) (u : Fin 2) : ℕ := baseN v0 (relS u)

/-- A chunk a whole number of chunks on lies in the queue. -/
theorem baseN_le (v0 : BitVec 32) (rel : ℕ) (h : 16384 ∣ rel) : baseN v0 rel + 16384 ≤ 262144 := by
  unfold baseN; obtain ⟨k, rfl⟩ := h; omega

/-- The offset of half of a chunk is its first row. -/
theorem qHalf_off (v0 : BitVec 32) (r : Fin 14) (h : Fin 2) :
    k0_off2 v0 (k0_off2_at ⟨2 * r.val + h.val, by omega⟩).1 (k0_off2_at ⟨2 * r.val + h.val, by omega⟩).2 = ![baseM v0 r + h.val * 8192, 0] := by
  rw [off2_at_eq, k0_off2_eq, offW_toNat _ _ _ (Nat.le_trans (relM_le r) (by decide)) (by omega)]; rfl
/-- The offset of a chunk is its first row. -/
theorem oChunk_off (v0 : BitVec 32) (r : Fin 14) : k0_off3 v0 (k0_off3_at r) = ![baseM v0 r, 0] := by
  rw [off3_at_eq, k0_off3_eq, offW_toNat _ _ 0 (Nat.le_trans (relM_le r) (by decide)) (by omega)]; rfl
/-- The offset of a quarter of a split chunk is its first row. -/
theorem quarter_off (v0 : BitVec 32) (u : Fin 2) (k : Fin 4) :
    k0_off1 v0 (BitVec.ofNat 32 (32768 + 212992 * u.val)) (BitVec.ofNat 32 (4096 * k.val)) = ![baseS v0 u + k.val * 4096, 0] := by
  rw [k0_off1_eq, offW_toNat _ _ _ (by omega) (by omega), Nat.mul_comm 4096]; rfl
/-- The offset of the splice is the pointer's place in slot 2. -/
theorem splice_off (v0 : BitVec 32) : k0_off4 v0 = ![32768 + ptrN v0 % 16384, 0] := by
  rw [k0_off4_eq, splice_toNat]

/-- The chunks' distances are whole numbers of chunks. -/
theorem relM_dvd : ∀ r : Fin 14, 16384 ∣ relM r := by decide
/-- The split chunks' distances are whole numbers of chunks. -/
theorem relS_dvd : ∀ u : Fin 2, 16384 ∣ relS u := by decide
/-- Every chunk of one slot lies in the queue. -/
theorem baseM_le (v0 : BitVec 32) (r : Fin 14) : baseM v0 r + 16384 ≤ 262144 := baseN_le v0 _ (relM_dvd r)
/-- Every split chunk lies in the queue. -/
theorem baseS_le (v0 : BitVec 32) (u : Fin 2) : baseS v0 u + 16384 ≤ 262144 := baseN_le v0 _ (relS_dvd u)

/-- What the body assumes of the pointer's word holds of every word. -/
theorem chk1 (v0 : BitVec 32) : k0_chk1 v0 := by
  refine ⟨fun u k => ?_, fun i => ?_, fun r => ?_, ?_⟩
  · rw [quarter_off]; have := baseS_le v0 u
    exact fun | 0 => (by show baseS v0 u + k.val * 4096 + 4096 ≤ 262144; omega) | 1 => Nat.le_refl 128
  · obtain ⟨r, h, rfl⟩ : ∃ (r : Fin 14) (h : Fin 2), i = ⟨2 * r.val + h.val, by omega⟩ :=
      ⟨⟨i.val / 2, by omega⟩, ⟨i.val % 2, by omega⟩, Fin.ext (by simp only; omega)⟩
    rw [qHalf_off]; have := baseM_le v0 r
    exact fun | 0 => (by show baseM v0 r + h.val * 8192 + 8192 ≤ 262144; omega) | 1 => Nat.le_refl 128
  · rw [oChunk_off]
    exact fun | 0 => baseM_le v0 r | 1 => Nat.le_refl 128
  · rw [splice_off]
    exact fun | 0 => (by show 32768 + ptrN v0 % 16384 + 4096 ≤ 114688; omega) | 1 => Nat.le_refl 128

end Cert.Kernel.Hand

end
-- ==== Proof.Rows.lean ====
/- Blocks of rows. A buffer of `R` rows of 128 lanes is held in blocks of rows; a block's contents are named by a table `f` of
   rows and lanes and the table's row the block begins at. Blocks split into disjoint blocks and join again. -/
module

public import proofs.«01_k».proof.Proof.Words
public import Idealize.ShloMosaic.Lib.Batch
public import Idealize.ShloMosaic.Lib.Ring
public import Idealize.ShloMosaic.Lib.Tactic
public import Idealize.ShloMosaic.Lib.Pipeline.FrameBody

@[expose] public section

noncomputable section

namespace Cert.Kernel.Hand

open Cert.Kernel Cert.Kernel.Gen
open Idealize.ShloMosaic Idealize.ShloMosaic.TcCoe Idealize.ShloMosaic.Tactic
open Idealize.SL
open Idealize.SL.BI (sProp Storable bigSep)
open scoped Idealize.SL.BI
open Idealize.SL.BI.BIBase Idealize.SL.BI.Laws Idealize.SL.ProofMode
open Idealize.SL.RA

variable {F : FTy → Type} [FloatOps F]

local notation "𝕄" => MT nD τ sig Unit (Elt F) ℕ (Pipeline.UD sig nD τ) ℕ

/-- A table of rows and lanes. -/
abbrev Table (F : FTy → Type) : Type := ℕ → ℕ → Elt F .f32

/-- The shape of `n` rows. -/
abbrev Rows (n : ℕ) : Shape := ⟨2, ![n, 128]⟩

/-- A memref of `n` rows held whole, its row `i` at the table's row `b + i`. -/
def Held {sp : Space} {n : ℕ} (c : Dev nD) (m : Memref sig .tc sp (Rows n) .f32) (f : Table F) (b : ℕ) : sProp 𝕄 :=
  iprop(∃ v : Buf (Elt F) (m.view.loc (c : Thread nD τ)),
    ⌜∀ x : (Rows n).Idx, m.view.read (Elt F) v x = f (b + (x 0).val) (x 1).val⌝ ∗ (m.view.loc (c : Thread nD τ) ↦[m.view.set]{fullShare} v))

/-- A memref held whole at some contents. -/
def Own {sp : Space} {n : ℕ} (c : Dev nD) (m : Memref sig .tc sp (Rows n) .f32) : sProp 𝕄 :=
  iprop(∃ v : Buf (Elt F) (m.view.loc (c : Thread nD τ)), (m.view.loc (c : Thread nD τ) ↦[m.view.set]{fullShare} v))

/-- A memref held at a table's rows may be kept in an invariant. -/
instance held_storable {sp : Space} {n : ℕ} (c : Dev nD) (m : Memref sig .tc sp (Rows n) .f32) (f : Table F) (b : ℕ) :
    Storable (upEmb : UEmb _ 𝕄) (Held c m f b) := by unfold Held; infer_instance

/-- What is held at a table's rows is held. -/
theorem held_own {sp : Space} {n : ℕ} (c : Dev nD) (m : Memref sig .tc sp (Rows n) .f32) (f : Table F) (b : ℕ) :
    Held c m f b ⊢ (Own (F := F) c m : sProp 𝕄) := by
  unfold Held Own
  iintro ⟨%v, -, H⟩
  iexists v
  iexact H

/-- Two tables that agree on the block's rows name the same contents. -/
theorem held_congr {sp : Space} {n : ℕ} (c : Dev nD) (m : Memref sig .tc sp (Rows n) .f32) {f f' : Table F} {b b' : ℕ}
    (h : ∀ i j, i < n → j < 128 → f (b + i) j = f' (b' + i) j) : Held c m f b = (Held c m f' b' : sProp 𝕄) := by
  unfold Held
  have hx : ∀ x : (Rows n).Idx, f (b + (x 0).val) (x 1).val = f' (b' + (x 0).val) (x 1).val := fun x => h _ _ (x 0).isLt (x 1).isLt
  simp only [hx]

/-- Rows `a, …, a + n - 1` of a memref of `R` rows. -/
abbrev rowsOf {sp : Space} {R : ℕ} (M : Memref sig .tc sp (Rows R) .f32) (a n : ℕ) (h : a + n ≤ R) : Memref sig .tc sp (Rows n) .f32 :=
  M.slice (Rect.unit (s := Rows R) ![a, 0] ![n, 128] (fun | 0 => h | 1 => Nat.le_refl 128)) (fun _ => rfl)

section Split

variable {sp : Space} {R : ℕ} (M : Memref sig .tc sp (Rows R) .f32)

/-- Where a row block's index lies in the whole. -/
def place (a n : ℕ) (h : a + n ≤ R) (x : (Rows n).Idx) : (Rows R).Idx
  | 0 => ⟨a + (x 0).val, by have : (x 0).val < n := (x 0).isLt; show a + (x 0).val < R; omega⟩
  | 1 => ⟨(x 1).val, (x 1).isLt⟩

/-- Where a block's index lies in the buffer. -/
theorem emb_rowsOf (a n : ℕ) (h : a + n ≤ R) (x : (Rows n).Idx) : (rowsOf M a n h).view.emb x = M.view.emb (place a n h x) := by
  show M.view.emb _ = M.view.emb _
  congr 1
  funext i
  apply Fin.ext
  rw [Rect.emb_apply]
  match i with
  | 0 => show a + 1 * (x 0).val = a + (x 0).val; omega
  | 1 => show 0 + 1 * (x 1).val = (x 1).val; omega

/-- Reading a block is reading the whole at the block's place. -/
theorem read_rowsOf (a n : ℕ) (h : a + n ≤ R) (v : M.view.ty.Contents (Elt F)) (x : (Rows n).Idx) :
    (rowsOf M a n h).view.read (Elt F) v x = M.view.read (Elt F) v (place a n h x) := by
  rw [View.read_apply, View.read_apply, emb_rowsOf]

/-- A block's elements are the whole's whose row is in the block's range. -/
theorem mem_rowsOf (a n : ℕ) (h : a + n ≤ R) (y : M.view.ty.Idx) :
    y ∈ (rowsOf M a n h).view.set ↔ ∃ z : (Rows R).Idx, M.view.emb z = y ∧ a ≤ (z 0).val ∧ (z 0).val < a + n := by
  constructor
  · intro hy
    obtain ⟨x, -, rfl⟩ : ∃ x : (Rows n).Idx, x ∈ Finset.univ ∧ (rowsOf M a n h).view.emb x = y := Finset.mem_map.mp hy
    have : (x 0).val < n := (x 0).isLt
    exact ⟨place a n h x, (emb_rowsOf M a n h x).symm, Nat.le_add_right _ _, by show a + (x 0).val < a + n; omega⟩
  · rintro ⟨z, rfl, h1, h2⟩
    let x : (Rows n).Idx := fun
      | 0 => ⟨(z 0).val - a, by show (z 0).val - a < n; omega⟩
      | 1 => ⟨(z 1).val, (z 1).isLt⟩
    have hz : place a n h x = z := by
      funext i
      apply Fin.ext
      match i with
      | 0 => show a + ((z 0).val - a) = (z 0).val; omega
      | 1 => rfl
    rw [← hz, ← emb_rowsOf]
    exact View.emb_mem_set _ x

variable {T : Type} [Fintype T] [DecidableEq T] {A N : ℕ} (hA : A + N ≤ R) {a n : T → ℕ} (ha : ∀ t, a t + n t ≤ R)

/-- The blocks `a t, …, a t + n t - 1` lie apart and make up the rows from `A` to `A + N - 1`. -/
structure Tiles {T : Type} (A N : ℕ) (a n : T → ℕ) : Prop where
  cover : ∀ i, (A ≤ i ∧ i < A + N) ↔ ∃ t, a t ≤ i ∧ i < a t + n t
  apart : ∀ t t', t ≠ t' → a t + n t ≤ a t' ∨ a t' + n t' ≤ a t

/-- Blocks that tile lie apart. -/
theorem tiles_disjoint (hT : Tiles A N a n) (t t' : T) (ht : t ≠ t') :
    Disjoint (rowsOf M (a t) (n t) (ha t)).view.set (rowsOf M (a t') (n t') (ha t')).view.set := by
  rw [Finset.disjoint_left]
  intro y hy hy'
  obtain ⟨z, hz, h1, h2⟩ := (mem_rowsOf M _ _ _ y).mp hy
  obtain ⟨z', hz', h1', h2'⟩ := (mem_rowsOf M _ _ _ y).mp hy'
  have : z = z' := M.view.emb.injective (hz.trans hz'.symm)
  subst this
  rcases hT.apart t t' ht with h | h <;> omega

/-- Blocks that tile make up the whole's rows. -/
theorem tiles_union (hT : Tiles A N a n) :
    (Finset.univ.biUnion fun t => (rowsOf M (a t) (n t) (ha t)).view.set) = (rowsOf M A N hA).view.set := by
  ext y
  rw [Finset.mem_biUnion]
  constructor
  · rintro ⟨t, -, hy⟩
    obtain ⟨z, hz, h1, h2⟩ := (mem_rowsOf M _ _ _ y).mp hy
    refine (mem_rowsOf M _ _ _ y).mpr ?_
    have := (hT.cover (z 0).val).mpr ⟨t, h1, h2⟩
    exact ⟨z, hz, this.1, this.2⟩
  · intro hy
    obtain ⟨z, hz, h1, h2⟩ := (mem_rowsOf M _ _ _ y).mp hy
    obtain ⟨t, ht⟩ := (hT.cover (z 0).val).mp ⟨h1, h2⟩
    exact ⟨t, Finset.mem_univ t, (mem_rowsOf M _ _ _ y).mpr ⟨z, hz, ht.1, ht.2⟩⟩

variable (c : Dev nD) (f : Table F)

/-- A block of rows falls into the blocks that tile it, each at the table's rows that are its own. -/
theorem held_split (hT : Tiles A N a n) {B : ℕ} {b : T → ℕ} (hb : ∀ t, b t + A = B + a t) :
    Held c (rowsOf M A N hA) f B ⊢ (bigSep Finset.univ fun t => Held c (rowsOf M (a t) (n t) (ha t)) f (b t) : sProp 𝕄) := by
  unfold Held
  iintro ⟨%v, %hv, H⟩
  have e : (M.view.loc (c : Thread nD τ) ↦[(rowsOf M A N hA).view.set]{fullShare} v : sProp 𝕄)
      = bigSep Finset.univ fun t => M.view.loc (c : Thread nD τ) ↦[(rowsOf M (a t) (n t) (ha t)).view.set]{fullShare} v := by
    rw [← tiles_union M hA ha hT]
    exact pointsTo_biUnion (ℓ := M.view.loc (c : Thread nD τ)) _ _ fun t _ t' _ h => tiles_disjoint M ha hT t t' h
  have key : ∀ t, (M.view.loc (c : Thread nD τ) ↦[(rowsOf M (a t) (n t) (ha t)).view.set]{fullShare} v : sProp 𝕄)
      ⊢ iprop(∃ v : Buf (Elt F) ((rowsOf M (a t) (n t) (ha t)).view.loc (c : Thread nD τ)),
        ⌜∀ x : (Rows (n t)).Idx, (rowsOf M (a t) (n t) (ha t)).view.read (Elt F) v x = f (b t + (x 0).val) (x 1).val⌝
          ∗ ((rowsOf M (a t) (n t) (ha t)).view.loc (c : Thread nD τ) ↦[(rowsOf M (a t) (n t) (ha t)).view.set]{fullShare} v)) := by
    intro t
    iintro H
    iexists v
    isplitr
    · ipureintro
      intro x
      have hx : (x 0).val < n t := (x 0).isLt
      obtain ⟨h1, h2⟩ := (hT.cover (a t + (x 0).val)).mpr ⟨t, Nat.le_add_right _ _, by omega⟩
      let x' : (Rows N).Idx := fun
        | 0 => ⟨a t + (x 0).val - A, by show a t + (x 0).val - A < N; omega⟩
        | 1 => ⟨(x 1).val, (x 1).isLt⟩
      have hp : place A N hA x' = place (a t) (n t) (ha t) x := by
        funext i
        apply Fin.ext
        match i with
        | 0 => show A + (a t + (x 0).val - A) = a t + (x 0).val; omega
        | 1 => rfl
      rw [read_rowsOf, ← hp, ← read_rowsOf, hv x']
      have : B + (x' 0).val = b t + (x 0).val := by
        show B + (a t + (x 0).val - A) = b t + (x 0).val
        have := hb t; omega
      rw [this]; rfl
    · iexact H
  iapply ((Entails.of_eq e).trans (BI.bigSep_mono fun t _ => key t)) $$ H

/-- Disjoint blocks gathered: one contents that reads as each block on its rows. -/
theorem held_gather (hT : Tiles A N a n) (b : T → ℕ) (v₀ : Buf (Elt F) (M.view.loc (c : Thread nD τ))) (S : Finset T) :
    (bigSep S fun t => Held c (rowsOf M (a t) (n t) (ha t)) f (b t) : sProp 𝕄)
      ⊢ iprop(∃ v : Buf (Elt F) (M.view.loc (c : Thread nD τ)),
          ⌜∀ t ∈ S, ∀ x : (Rows (n t)).Idx, (rowsOf M (a t) (n t) (ha t)).view.read (Elt F) v x = f (b t + (x 0).val) (x 1).val⌝
            ∗ (M.view.loc (c : Thread nD τ) ↦[S.biUnion fun t => (rowsOf M (a t) (n t) (ha t)).view.set]{fullShare} v)) := by
  induction S using Finset.induction_on with
  | empty =>
    iintro -
    iexists v₀
    isplitr
    · ipureintro; intro t ht; exact absurd ht (Finset.notMem_empty _)
    · rw [Finset.biUnion_empty, pointsTo_empty]; iempintro
  | insert t S ht ih =>
    rw [BI.bigSep_insert ht, Finset.biUnion_insert]
    have hd : Disjoint (rowsOf M (a t) (n t) (ha t)).view.set (S.biUnion fun t => (rowsOf M (a t) (n t) (ha t)).view.set) :=
      (Finset.disjoint_biUnion_right _ _ _).mpr fun t' ht' => tiles_disjoint M ha hT t t' fun e => ht (e ▸ ht')
    refine (show iprop(Held c (rowsOf M (a t) (n t) (ha t)) f (b t) ∗ bigSep S fun t => Held c (rowsOf M (a t) (n t) (ha t)) f (b t)) ⊢ _ from ?_)
    iintro ⟨Ht, HS⟩
    ihave H := ih $$ HS
    icases H with ⟨%v, %hv, HS⟩
    unfold Held
    icases Ht with ⟨%w, %hw, Ht⟩
    iexists ((S.biUnion fun t => (rowsOf M (a t) (n t) (ha t)).view.set).piecewise v w)
    isplitr
    · ipureintro
      intro t' ht' x
      rcases Finset.mem_insert.mp ht' with rfl | ht'
      · rw [← hw x]
        exact View.read_congr_at x (Finset.piecewise_eq_of_notMem _ _ _ (Finset.disjoint_left.mp hd (View.emb_mem_set _ x)))
      · rw [← hv t' ht' x]
        exact View.read_congr_at x (Finset.piecewise_eq_of_mem _ _ _ (Finset.mem_biUnion.mpr ⟨t', ht', View.emb_mem_set _ x⟩))
    · iapply (pointsTo_join (ℓ := M.view.loc (c : Thread nD τ)) hd)
      isplitl [Ht]; · iexact Ht
      iexact HS

/-- Blocks that tile a block of rows join to it. -/
theorem held_join (hT : Tiles A N a n) {B : ℕ} {b : T → ℕ} (hb : ∀ t, b t + A = B + a t) :
    (bigSep Finset.univ fun t => Held c (rowsOf M (a t) (n t) (ha t)) f (b t) : sProp 𝕄) ⊢ Held c (rowsOf M A N hA) f B := by
  refine (held_gather M ha c f hT b (fun _ => Classical.arbitrary _) Finset.univ).trans ?_
  rw [tiles_union M hA ha hT]
  unfold Held
  iintro ⟨%v, %hv, H⟩
  iexists v
  isplitr
  · ipureintro
    intro x
    have hx : (x 0).val < N := (x 0).isLt
    obtain ⟨t, h1, h2⟩ := (hT.cover (A + (x 0).val)).mp ⟨Nat.le_add_right _ _, by omega⟩
    let x' : (Rows (n t)).Idx := fun
      | 0 => ⟨A + (x 0).val - a t, by show A + (x 0).val - a t < n t; omega⟩
      | 1 => ⟨(x 1).val, (x 1).isLt⟩
    have hp : place (a t) (n t) (ha t) x' = place A N hA x := by
      funext i
      apply Fin.ext
      match i with
      | 0 => show a t + (A + (x 0).val - a t) = A + (x 0).val; omega
      | 1 => rfl
    rw [read_rowsOf, ← hp, ← read_rowsOf, hv t (Finset.mem_univ t) x']
    have : b t + (x' 0).val = B + (x 0).val := by
      show b t + (A + (x 0).val - a t) = B + (x 0).val
      have := hb t; omega
    rw [this]; rfl
  · iexact H

/-- The same for blocks held at some contents: they split, -/
theorem own_split (hT : Tiles A N a n) :
    Own c (rowsOf M A N hA) ⊢ (bigSep Finset.univ fun t => Own (F := F) c (rowsOf M (a t) (n t) (ha t)) : sProp 𝕄) := by
  unfold Own
  iintro ⟨%v, H⟩
  have key : ∀ t, (M.view.loc (c : Thread nD τ) ↦[(rowsOf M (a t) (n t) (ha t)).view.set]{fullShare} v : sProp 𝕄)
      ⊢ iprop(∃ v : Buf (Elt F) ((rowsOf M (a t) (n t) (ha t)).view.loc (c : Thread nD τ)),
          (rowsOf M (a t) (n t) (ha t)).view.loc (c : Thread nD τ) ↦[(rowsOf M (a t) (n t) (ha t)).view.set]{fullShare} v) := by
    intro t
    iintro H
    iexists v
    iexact H
  iapply ((Entails.of_eq (Ring.pointsTo_sub_blocks (ℓ := M.view.loc (c : Thread nD τ)) (fun t => (rowsOf M (a t) (n t) (ha t)).view.set)
    (tiles_disjoint M ha hT) _ (tiles_union M hA ha hT) v)).trans (BI.bigSep_mono fun t _ => key t)) $$ H

/-- and join. -/
theorem own_join (hT : Tiles A N a n) :
    (bigSep Finset.univ fun t => Own (F := F) c (rowsOf M (a t) (n t) (ha t)) : sProp 𝕄) ⊢ Own c (rowsOf M A N hA) :=
  Ring.pointsTo_sub_blocks_join_exists (ℓ := M.view.loc (c : Thread nD τ)) (fun t => (rowsOf M (a t) (n t) (ha t)).view.set)
    (tiles_disjoint M ha hT) _ (tiles_union M hA ha hT) (fun _ => Classical.arbitrary _)

omit [Fintype T] [DecidableEq T] in
/-- `m` blocks of `n` rows, one after the other. -/
theorem tiles_uniform (A m n : ℕ) : Tiles A (m * n) (fun k : Fin m => A + k.val * n) (fun _ => n) where
  cover i := by
    constructor
    · rintro ⟨h1, h2⟩
      have hn : 0 < n := Nat.pos_of_ne_zero fun h => by subst h; omega
      have hk : (i - A) / n < m := (Nat.div_lt_iff_lt_mul hn).mpr (by omega)
      have := Nat.div_add_mod (i - A) n
      have := Nat.mod_lt (i - A) hn
      rw [Nat.mul_comm] at *
      exact ⟨⟨(i - A) / n, hk⟩, by show A + (i - A) / n * n ≤ i; omega, by show i < A + (i - A) / n * n + n; omega⟩
    · rintro ⟨k, h1, h2⟩
      have : (k.val + 1) * n ≤ m * n := Nat.mul_le_mul_right n k.isLt
      rw [Nat.succ_mul] at this
      exact ⟨by omega, by omega⟩
  apart k k' h := by
    rcases Nat.lt_or_gt_of_ne (fun e => h (Fin.ext e)) with h | h
    · left
      have : (k.val + 1) * n ≤ k'.val * n := Nat.mul_le_mul_right n h
      rw [Nat.succ_mul] at this; omega
    · right
      have : (k'.val + 1) * n ≤ k.val * n := Nat.mul_le_mul_right n h
      rw [Nat.succ_mul] at this; omega

omit [Fintype T] [DecidableEq T] in
/-- Two blocks, one after the other. -/
theorem tiles_two (A n m : ℕ) : Tiles A (n + m) (fun t : Fin 2 => if t.val = 0 then A else A + n) (fun t => if t.val = 0 then n else m) where
  cover i := by
    constructor
    · rintro ⟨h1, h2⟩
      rcases Nat.lt_or_ge i (A + n) with h | h
      · exact ⟨0, h1, h⟩
      · exact ⟨1, h, by show i < A + n + m; omega⟩
    · rintro ⟨t, h1, h2⟩
      match t with
      | 0 => exact ⟨h1, by have : i < A + n := h2; omega⟩
      | 1 => have h1' : A + n ≤ i := h1; have h2' : i < A + n + m := h2; exact ⟨by omega, by omega⟩
  apart t t' h := by
    match t, t' with
    | 0, 0 => exact absurd rfl h
    | 1, 1 => exact absurd rfl h
    | 0, 1 => exact .inl (Nat.le_refl _)
    | 1, 0 => exact .inr (Nat.le_refl _)

omit [Fintype T] [DecidableEq T] in
/-- A conjunction over two, over four. -/
theorem bigSep_two' (Φ : Fin 2 → sProp 𝕄) : bigSep Finset.univ Φ = iprop(Φ 0 ∗ Φ 1) :=
  BI.bigSep_univ_eq_bigSepL [0, 1] (by decide) (by decide) Φ
omit [Fintype T] [DecidableEq T] in
/-- A conjunction over four. -/
theorem bigSep_four (Φ : Fin 4 → sProp 𝕄) : bigSep Finset.univ Φ = iprop(Φ 0 ∗ Φ 1 ∗ Φ 2 ∗ Φ 3) :=
  BI.bigSep_univ_eq_bigSepL [0, 1, 2, 3] (by decide) (by decide) Φ

omit [Fintype T] [DecidableEq T] in
/-- A block of rows in two, the second beginning at row `A'`. -/
theorem held_two (A A' n m N B B' : ℕ) (hA : A + N ≤ R) (h₁ : A + n ≤ R) (h₂ : A' + m ≤ R) (eA : A' = A + n) (eN : N = n + m) (eB : B' = B + n) :
    Held c (rowsOf M A N hA) f B = iprop(Held c (rowsOf M A n h₁) f B ∗ Held c (rowsOf M A' m h₂) f B' : sProp 𝕄) := by
  subst eA eN eB
  have ha : ∀ t : Fin 2, (if t.val = 0 then A else A + n) + (if t.val = 0 then n else m) ≤ R := fun | 0 => h₁ | 1 => h₂
  have hb : ∀ t : Fin 2, (if t.val = 0 then B else B + n) + A = B + (if t.val = 0 then A else A + n) := fun
    | 0 => rfl | 1 => (by show B + n + A = B + (A + n); omega)
  have e := (held_split M hA ha c f (tiles_two A n m) (B := B) (b := fun t => if t.val = 0 then B else B + n) hb)
  have e' := (held_join M hA ha c f (tiles_two A n m) (B := B) (b := fun t => if t.val = 0 then B else B + n) hb)
  rw [bigSep_two'] at e e'
  exact BI.equiv_iff.mp ⟨e, e'⟩

omit [Fintype T] [DecidableEq T] in
/-- A block of rows owned is two blocks owned, the second beginning at row `A'`. -/
theorem own_two (A A' n m N : ℕ) (hA : A + N ≤ R) (h₁ : A + n ≤ R) (h₂ : A' + m ≤ R) (eA : A' = A + n) (eN : N = n + m) :
    Own (F := F) c (rowsOf M A N hA) = iprop(Own c (rowsOf M A n h₁) ∗ Own c (rowsOf M A' m h₂) : sProp 𝕄) := by
  subst eA eN
  have ha : ∀ t : Fin 2, (if t.val = 0 then A else A + n) + (if t.val = 0 then n else m) ≤ R := fun | 0 => h₁ | 1 => h₂
  have e := own_split (F := F) M hA ha c (tiles_two A n m)
  have e' := own_join (F := F) M hA ha c (tiles_two A n m)
  rw [bigSep_two'] at e e'
  exact BI.equiv_iff.mp ⟨e, e'⟩

end Split

end Cert.Kernel.Hand

end
-- ==== Proof.Copies.lean ====
/- Copies and their waits, over blocks of rows. The copies on one semaphore are a batch: each, landed, gives back its source
   and its destination at the source's rows. -/
module

public import proofs.«01_k».proof.Proof.Rows

@[expose] public section

noncomputable section

namespace Cert.Kernel.Hand

open Cert.Kernel Cert.Kernel.Gen
open Idealize.ShloMosaic Idealize.ShloMosaic.TcCoe Idealize.ShloMosaic.Tactic
open Idealize.SL
open Idealize.SL.BI (sProp Storable bigSep)
open scoped Idealize.SL.BI
open Idealize.SL.BI.BIBase Idealize.SL.BI.Laws Idealize.SL.ProofMode Idealize.SL.Sem
open Idealize.SL.RA

variable {F : FTy → Type} [FloatOps F]

local notation "𝕄" => MT nD τ sig Unit (Elt F) ℕ (Pipeline.UD sig nD τ) ℕ

variable (c : Dev nD)

/-- A batch of `m` copies of `N` units on semaphore `s`: `j` started, `u` units waited for. -/
abbrev Bt {m : ℕ} (s : DmaSem sig) (N : ℕ) (D : Fin m → sProp 𝕄) (j u : ℕ) : sProp 𝕄 :=
  Transfers.Batch (countersEmb (U := Pipeline.UD sig nD τ)) (c : Thread nD τ) (.dma s) () N D j u

/-- A semaphore's counter at zero. -/
abbrev Sem0 (s : DmaSem sig) : sProp 𝕄 := semVal ((c : Thread nD τ), SemLoc.dma s) 0

/-- The core owes nothing. -/
def Owes : sProp 𝕄 := iprop(∃ W, owes (c : Thread nD τ) 0 W)

/-- Running a piece of the body. -/
abbrev run (p : Prog (TpuEff nD τ sig (Elt F) Λ₀ Proc.tc) PUnit) (Q : PUnit → sProp 𝕄) : sProp 𝕄 :=
  wp frame (wpE (defs₀ (F := F)) Variants.none (c : Thread nD τ) none) Set.univ p Q

/-- A batch begins at a counter at zero. -/
theorem bt_alloc {m : ℕ} (s : DmaSem sig) (N : ℕ) (D : Fin m → sProp 𝕄) [∀ t, Storable (upEmb : UEmb _ 𝕄) (D t)] :
    Sem0 c s ⊢ |={Set.univ}=> Bt c s N D 0 0 :=
  Transfers.batch_alloc' (Lvl := ℕ) (countersEmb (U := Pipeline.UD sig nD τ)) (c : Thread nD τ) () N D (sm := .dma s) (E := Set.univ)

variable {sp sp' : Space} {n : ℕ} (src : Memref sig .tc sp (Rows n) .f32) (dst : Memref sig .tc sp' (Rows n) .f32) (s : DmaSem sig)

/-- What a landed copy gives back: its destination at the source's rows, and its source. -/
def landed (f : Table F) (b : ℕ) : sProp 𝕄 := iprop(Held c dst f b ∗ Held c src f b)

/-- What a landed copy gives back may be kept in an invariant. -/
instance landed_storable (f : Table F) (b : ℕ) : Storable (upEmb : UEmb _ 𝕄) (landed c src dst f b) := by
  unfold landed; infer_instance

/-- Starting copy `j` of a batch. -/
theorem wp_start (hl : DmaTarget.HostLowered (nD := nD) (τ := τ) sp (SemLoc.dma s) (DmaTarget.here (p := Proc.tc) dst)) {m : ℕ} {N : ℕ}
    (hN : dst.view.amount (SemLoc.dma s) = N) {D : Fin m → sProp 𝕄} {j u : ℕ} (hj : j < m) (hu : u ≤ j * N) (f : Table F) (b : ℕ)
    (hD : landed c src dst f b ⊢ D ⟨j, hj⟩) (Q : PUnit → sProp 𝕄) :
    iprop(Held c src f b ∗ Own c dst ∗ Bt c s N D j u) ⊢ iprop((Bt c s N D (j + 1) u -∗ Q ⟨⟩) -∗ run c (startCopy src dst s hl) Q) := by
  unfold landed at hD
  unfold Held Own at *
  iintro ⟨⟨%v, %hv, Hs⟩, ⟨%w, Hd⟩, HB⟩ Hk
  iapply (Transfers.wp_dmaBatch (countersEmb (U := Pipeline.UD sig nD τ)) Variants.none (c : Thread nD τ) none (src := src) (dst := dst) () N hN
    subset_rfl (D := D) hj hu (q := fullShare) (fs := v) (fd := w) (by
      refine Entails.trans ?_ hD
      iintro ⟨Hd, Hs⟩
      isplitl [Hd]
      · iexists _
        isplitr
        rotate_left
        · iexact Hd
        · ipureintro
          intro x
          rw [View.read_write_univ]
          exact hv x
      · iexists v
        isplitr
        · ipureintro; exact hv
        · iexact Hs)) $$ [Hs Hd HB]
  · isplitl [Hs]; · iexact Hs
    isplitl [Hd]; · iexact Hd
    iexact HB
  iintro HB
  rw [wp_ret]
  imodintro
  iapply Hk $$ HB

/-- A wait that is not a batch's last gives nothing back. -/
theorem wp_wait_skip {m : ℕ} {N : ℕ} (hN : dst.view.dmaCredit = N) {D : Fin m → sProp 𝕄} {u : ℕ} (hu : u + N < N * m) (Q : PUnit → sProp 𝕄) :
    iprop(Bt c s N D m u ∗ Owes c) ⊢ iprop(((Bt c s N D m (u + N) ∗ Owes c) -∗ Q ⟨⟩) -∗ run c (waitCopy src dst s) Q) := by
  unfold Owes
  iintro ⟨HB, ⟨%W, HO⟩⟩ Hk
  iapply (Transfers.wp_waitBatch (countersEmb (U := Pipeline.UD sig nD τ)) Variants.none (c : Thread nD τ) none (srcw := src) (dstw := dst) () hN hu) $$ [HB HO]
  · isplitl [HB]; · iexact HB
    iexact HO
  iintro ⟨HB, HO⟩
  rw [wp_ret]
  imodintro
  iapply Hk
  isplitl [HB]; · iexact HB
  iexists _; iexact HO

/-- A batch's last wait gives back what every copy gives back, and the counter at zero. -/
theorem wp_wait_last {m : ℕ} {N : ℕ} (hN : dst.view.dmaCredit = N) (hN0 : 0 < N) {D : Fin m → sProp 𝕄} {u : ℕ} (hu : u + N = N * m)
    (Q : PUnit → sProp 𝕄) :
    iprop(Bt c s N D m u ∗ Owes c) ⊢ iprop(((bigSep Finset.univ D ∗ Sem0 c s ∗ Owes c) -∗ Q ⟨⟩) -∗ run c (waitCopy src dst s) Q) := by
  unfold Owes
  iintro ⟨HB, ⟨%W, HO⟩⟩ Hk
  iapply (Transfers.wp_waitBatchLast (countersEmb (U := Pipeline.UD sig nD τ)) Variants.none (c : Thread nD τ) none (srcw := src) (dstw := dst) () hN hN0 hu) $$ [HB HO]
  · isplitl [HB]; · iexact HB
    iexact HO
  iintro ⟨HD, HS, HO⟩
  rw [wp_ret]
  imodintro
  iapply Hk
  isplitl [HD]; · iexact HD
  isplitl [HS]; · iexact HS
  iexists _; iexact HO

/-- A block of at least one row has elements. -/
theorem rows_pos {n : ℕ} (hn : 0 < n) : 0 < (Rows n).numel := by
  show 0 < ∏ a : Fin 2, ![n, 128] a
  rw [Fin.prod_univ_two]
  exact Nat.mul_pos hn (Nat.succ_pos 127)

/-- A single copy in flight. -/
def Flight (f : Table F) (b : ℕ) : sProp 𝕄 :=
  Bt c s (dst.view.amount (SemLoc.dma s)) (fun _ : Fin 1 => landed c src dst f b) 1 0

/-- Starting a single copy: its source and destination are given up until it has landed. -/
theorem wp_start_one (hl : DmaTarget.HostLowered (nD := nD) (τ := τ) sp (SemLoc.dma s) (DmaTarget.here (p := Proc.tc) dst)) (f : Table F) (b : ℕ)
    (Q : PUnit → sProp 𝕄) :
    iprop(Held c src f b ∗ Own c dst ∗ Sem0 c s) ⊢ iprop((Flight c src dst s f b -∗ Q ⟨⟩) -∗ run c (startCopy src dst s hl) Q) := by
  iintro ⟨Hs, Hd, HS⟩ Hk
  imod (bt_alloc c s (dst.view.amount (SemLoc.dma s)) (fun _ : Fin 1 => landed c src dst f b)) $$ HS with HB
  iapply (wp_start c src dst s hl rfl (D := fun _ : Fin 1 => landed c src dst f b) (j := 0) (u := 0) Nat.one_pos (Nat.zero_le _) f b .rfl Q) $$ [Hs Hd HB]
  · isplitl [Hs]; · iexact Hs
    isplitl [Hd]; · iexact Hd
    iexact HB
  iexact Hk

/-- Waiting for a single copy: the destination comes back at the source's rows, with the source and the semaphore at zero. -/
theorem wp_wait_one (hn : 0 < n) (f : Table F) (b : ℕ) (Q : PUnit → sProp 𝕄) :
    iprop(Flight c src dst s f b ∗ Owes c)
      ⊢ iprop(((Held c dst f b ∗ Held c src f b ∗ Sem0 c s ∗ Owes c) -∗ Q ⟨⟩) -∗ run c (waitCopy src dst s) Q) := by
  unfold Flight
  iintro ⟨HB, HO⟩ Hk
  iapply (wp_wait_last c src dst s rfl (dst.view.dmaCredit_pos (rows_pos hn)) (D := fun _ : Fin 1 => landed c src dst f b) (u := 0) (by rw [Nat.zero_add, Nat.mul_one]) Q) $$ [HB HO]
  · isplitl [HB]; · iexact HB
    iexact HO
  rw [BI.bigSep_univ_eq_bigSepL [0] (by decide) (by decide), BI.bigSepL_singleton]
  unfold landed
  iintro ⟨⟨Hd, Hs⟩, HS, HO⟩
  iapply Hk
  isplitl [Hd]; · iexact Hd
  isplitl [Hs]; · iexact Hs
  isplitl [HS]; · iexact HS
  iexact HO

end Cert.Kernel.Hand

end
-- ==== Proof.Groups.lean ====
/- The groups of transfers: a chunk in by halves, a chunk out, a split chunk by quarters, the splice. -/
module

public import proofs.«01_k».proof.Proof.Copies

@[expose] public section

noncomputable section

namespace Cert.Kernel.Hand

open Cert.Kernel Cert.Kernel.Gen
open Idealize.ShloMosaic Idealize.ShloMosaic.TcCoe Idealize.ShloMosaic.Tactic
open Idealize.SL
open Idealize.SL.BI (sProp Storable bigSep)
open scoped Idealize.SL.BI
open Idealize.SL.BI.BIBase Idealize.SL.BI.Laws Idealize.SL.ProofMode Idealize.SL.Sem
open Idealize.SL.RA

variable {F : FTy → Type} [FloatOps F]

local notation "𝕄" => MT nD τ sig Unit (Elt F) ℕ (Pipeline.UD sig nD τ) ℕ

variable (c : Dev nD) (v0 : BitVec 32) (hw : k0_chk1 v0)

/-! ## The transfers' ends as blocks of rows -/

/-- A slice at the offset of row `a` is the block of rows from `a`. -/
theorem slice_rowsOf {sp : Space} {R n a : ℕ} (M : Memref sig .tc sp (Rows R) .f32) {o : Fin 2 → ℕ} (ho : o = ![a, 0])
    (hi : ∀ i, o i + (![n, 128] : Fin 2 → ℕ) i ≤ (Rows R).size i) (h : a + n ≤ R) :
    M.slice (Rect.unit (s := Rows R) o ![n, 128] hi) (fun _ => rfl) = rowsOf M a n h := by
  subst ho; rfl

/-- The rows of half of a chunk lie in the queue. -/
theorem qHalf_le (r : Fin 14) (h : Fin 2) : baseM v0 r + h.val * 8192 + 8192 ≤ 262144 := by have := baseM_le v0 r; omega
/-- The rows of a quarter of a split chunk lie in the queue. -/
theorem qQuarter_le (u : Fin 2) (k : Fin 4) : baseS v0 u + k.val * 4096 + 4096 ≤ 262144 := by have := baseS_le v0 u; omega

/-- Half of a chunk of the queue, as printed, is the block of 8192 rows from its first row. -/
theorem qHalf_eq (r : Fin 14) (h : Fin 2) : qHalf v0 hw r h = rowsOf qM (baseM v0 r + h.val * 8192) 8192 (qHalf_le v0 r h) :=
  slice_rowsOf qM (qHalf_off v0 r h) _ _
/-- A chunk of the result, as printed, is the block of 16384 rows from its first row. -/
theorem oChunk_eq (r : Fin 14) : oChunk v0 hw r = rowsOf oM (baseM v0 r) 16384 (baseM_le v0 r) :=
  slice_rowsOf oM (oChunk_off v0 r) _ _
/-- A quarter of a split chunk, as printed, is the block of 4096 rows from its first row. -/
theorem hQuarter_eq (M : Memref sig .tc .hbm S262144x128 .f32) (u : Fin 2) (k : Fin 4) :
    hQuarter v0 hw M u k = rowsOf M (baseS v0 u + k.val * 4096) 4096 (qQuarter_le v0 u k) :=
  slice_rowsOf M (quarter_off v0 u k) _ _
/-- The rows that the embeddings replace in the slots, as printed, are the 4096 rows from the pointer's place in slot 2. -/
theorem bSplice_eq : bSplice v0 hw = rowsOf bM (32768 + ptrN v0 % 16384) 4096 (by omega) :=
  slice_rowsOf bM (splice_off v0) _ _

/-- A chunk's rows of the queue. -/
abbrev qChunk (r : Fin 14) : Memref sig .tc .hbm (Rows 16384) .f32 := rowsOf qM (baseM v0 r) 16384 (baseM_le v0 r)
/-- A split chunk's rows of the queue or of the result. -/
abbrev sChunk (M : Memref sig .tc .hbm S262144x128 .f32) (u : Fin 2) : Memref sig .tc .hbm (Rows 16384) .f32 := rowsOf M (baseS v0 u) 16384 (baseS_le v0 u)
/-- A slot, by its number. -/
abbrev slot (s : ℕ) (hs : s < 7) : Memref sig .tc .vmem (Rows 16384) .f32 := bufRows (s * 16384) 16384 (by omega)

/-! ## Chunks of one slot -/

/-- A chunk's copy in: two halves in flight on the slot's semaphore. -/
def InFlight (r : Fin 14) (f : Table F) (b : ℕ) : sProp 𝕄 :=
  Bt c (inSem (slotM r) (slotM_lt r)) ((bHalf r 0).view.amount (SemLoc.dma (inSem (slotM r) (slotM_lt r))))
    (fun h : Fin 2 => landed c (qHalf v0 hw r h) (bHalf r h) f (b + h.val * 8192)) 2 0

/-- A chunk of the queue, and a slot, by halves. -/
theorem held_qHalves (r : Fin 14) (f : Table F) (b : ℕ) :
    Held c (qChunk v0 r) f b = iprop(Held c (qHalf v0 hw r 0) f (b + (0 : Fin 2).val * 8192) ∗ Held c (qHalf v0 hw r 1) f (b + (1 : Fin 2).val * 8192) : sProp 𝕄) := by
  rw [qHalf_eq, qHalf_eq]
  exact held_two qM c f _ _ 8192 8192 16384 _ _ _ _ _ rfl rfl rfl
/-- A slot's rows held are its two halves held. -/
theorem held_bufHalves (A : ℕ) (h : A + 16384 ≤ 114688) (h₀ : A + (0 : Fin 2).val * 8192 + 8192 ≤ 114688) (h₁ : A + (1 : Fin 2).val * 8192 + 8192 ≤ 114688)
    (f : Table F) (b : ℕ) :
    Held c (bufRows A 16384 h) f b = iprop(Held c (bufRows (A + (0 : Fin 2).val * 8192) 8192 h₀) f (b + (0 : Fin 2).val * 8192)
      ∗ Held c (bufRows (A + (1 : Fin 2).val * 8192) 8192 h₁) f (b + (1 : Fin 2).val * 8192) : sProp 𝕄) :=
  held_two bM c f _ _ 8192 8192 16384 _ _ h h₀ h₁ rfl rfl rfl
/-- A slot's rows owned are its two halves owned. -/
theorem own_bufHalves (A : ℕ) (h : A + 16384 ≤ 114688) (h₀ : A + (0 : Fin 2).val * 8192 + 8192 ≤ 114688) (h₁ : A + (1 : Fin 2).val * 8192 + 8192 ≤ 114688) :
    Own (F := F) c (bufRows A 16384 h) = iprop(Own c (bufRows (A + (0 : Fin 2).val * 8192) 8192 h₀)
      ∗ Own c (bufRows (A + (1 : Fin 2).val * 8192) 8192 h₁) : sProp 𝕄) :=
  own_two bM c _ _ 8192 8192 16384 h h₀ h₁ rfl rfl
/-- A chunk's slot held is its two halves held. -/
theorem held_bHalves (r : Fin 14) (f : Table F) (b : ℕ) :
    Held c (bChunk r) f b = iprop(Held c (bHalf r 0) f (b + (0 : Fin 2).val * 8192) ∗ Held c (bHalf r 1) f (b + (1 : Fin 2).val * 8192) : sProp 𝕄) :=
  held_bufHalves c (slotM r * 16384) (chunk_le r) (half_le r 0) (half_le r 1) f b
/-- A chunk's slot owned is its two halves owned. -/
theorem own_bHalves (r : Fin 14) : Own (F := F) c (bChunk r) = iprop(Own c (bHalf r 0) ∗ Own c (bHalf r 1) : sProp 𝕄) :=
  own_bufHalves c (slotM r * 16384) (chunk_le r) (half_le r 0) (half_le r 1)

/-- Starting a chunk's copy in. -/
theorem wp_startIn (r : Fin 14) (f : Table F) (b : ℕ) (Q : PUnit → sProp 𝕄) :
    iprop(Held c (qChunk v0 r) f b ∗ Own c (bChunk r) ∗ Sem0 c (inSem (slotM r) (slotM_lt r)))
      ⊢ iprop((InFlight c v0 hw r f b -∗ Q ⟨⟩) -∗ run c (startIn v0 hw r) Q) := by
  rw [held_qHalves c v0 hw, own_bHalves]
  unfold startIn InFlight
  rw [run, wp_bind]
  iintro ⟨⟨Hq0, Hq1⟩, ⟨Hb0, Hb1⟩, HS⟩ Hk
  imod (bt_alloc c _ _ (fun h : Fin 2 => landed c (qHalf v0 hw r h) (bHalf r h) f (b + h.val * 8192))) $$ HS with HB
  iapply (wp_start c (qHalf v0 hw r 0) (bHalf r 0) _ trivial rfl (D := fun h : Fin 2 => landed c (qHalf v0 hw r h) (bHalf r h) f (b + h.val * 8192))
    (j := 0) (u := 0) (by decide) (Nat.zero_le _) f (b + (0 : Fin 2).val * 8192) .rfl) $$ [Hq0 Hb0 HB]
  · isplitl [Hq0]; · iexact Hq0
    isplitl [Hb0]; · iexact Hb0
    iexact HB
  iintro HB
  iapply (wp_start c (qHalf v0 hw r 1) (bHalf r 1) _ trivial rfl (D := fun h : Fin 2 => landed c (qHalf v0 hw r h) (bHalf r h) f (b + h.val * 8192))
    (j := 1) (u := 0) (by decide) (Nat.zero_le _) f (b + (1 : Fin 2).val * 8192) .rfl) $$ [Hq1 Hb1 HB]
  · isplitl [Hq1]; · iexact Hq1
    isplitl [Hb1]; · iexact Hb1
    iexact HB
  iexact Hk

/-- Waiting for a chunk's copy in: the slot holds the chunk. -/
theorem wp_waitIn (r : Fin 14) (f : Table F) (b : ℕ) (Q : PUnit → sProp 𝕄) :
    iprop(InFlight c v0 hw r f b ∗ Owes c)
      ⊢ iprop(((Held c (bChunk r) f b ∗ Held c (qChunk v0 r) f b ∗ Sem0 c (inSem (slotM r) (slotM_lt r)) ∗ Owes c) -∗ Q ⟨⟩)
        -∗ run c (waitIn v0 hw r) Q) := by
  rw [held_qHalves c v0 hw, held_bHalves]
  unfold waitIn InFlight
  rw [run, wp_bind]
  iintro ⟨HB, HO⟩ Hk
  iapply (wp_wait_skip c (qHalf v0 hw r 0) (bHalf r 0) (inSem (slotM r) (slotM_lt r)) rfl
    (D := fun h : Fin 2 => landed c (qHalf v0 hw r h) (bHalf r h) f (b + h.val * 8192)) (u := 0)
    (by have : 0 < (bHalf r 0).view.dmaCredit := (bHalf r 0).view.dmaCredit_pos (rows_pos (by decide)); omega)) $$ [HB HO]
  · isplitl [HB]; · iexact HB
    iexact HO
  iintro ⟨HB, HO⟩
  iapply (wp_wait_last c (qHalf v0 hw r 1) (bHalf r 1) (inSem (slotM r) (slotM_lt r)) (N := (bHalf r 0).view.dmaCredit) rfl
    ((bHalf r 0).view.dmaCredit_pos (rows_pos (by decide)))
    (D := fun h : Fin 2 => landed c (qHalf v0 hw r h) (bHalf r h) f (b + h.val * 8192)) (u := 0 + (bHalf r 0).view.dmaCredit) (by omega)) $$ [HB HO]
  · isplitl [HB]; · iexact HB
    iexact HO
  rw [bigSep_two']
  unfold landed
  iintro ⟨⟨⟨Hb0, Hq0⟩, ⟨Hb1, Hq1⟩⟩, HS, HO⟩
  iapply Hk
  isplitl [Hb0 Hb1]
  · isplitl [Hb0]; · iexact Hb0
    iexact Hb1
  isplitl [Hq0 Hq1]
  · isplitl [Hq0]; · iexact Hq0
    iexact Hq1
  isplitl [HS]; · iexact HS
  iexact HO

/-- A chunk's copy out, in flight. -/
abbrev OutFlight (r : Fin 14) (f : Table F) (b : ℕ) : sProp 𝕄 :=
  Flight c (bChunk r) (oChunk v0 hw r) (outSem (slotM r) (slotM_lt r)) f b

/-- Starting a chunk's copy out of its slot. -/
theorem wp_startOut (r : Fin 14) (f : Table F) (b : ℕ) (Q : PUnit → sProp 𝕄) :
    iprop(Held c (bChunk r) f b ∗ Own c (oChunk v0 hw r) ∗ Sem0 c (outSem (slotM r) (slotM_lt r)))
      ⊢ iprop((OutFlight c v0 hw r f b -∗ Q ⟨⟩) -∗ run c (startOut v0 hw r) Q) :=
  wp_start_one c (bChunk r) (oChunk v0 hw r) _ trivial f b Q

/-- Waiting for a chunk's copy out: the result's rows hold what the slot held, and the slot comes back. -/
theorem wp_waitOut (r : Fin 14) (f : Table F) (b : ℕ) (Q : PUnit → sProp 𝕄) :
    iprop(OutFlight c v0 hw r f b ∗ Owes c)
      ⊢ iprop(((Held c (oChunk v0 hw r) f b ∗ Held c (bChunk r) f b ∗ Sem0 c (outSem (slotM r) (slotM_lt r)) ∗ Owes c) -∗ Q ⟨⟩)
        -∗ run c (waitOut v0 hw r) Q) :=
  wp_wait_one c (bChunk r) (oChunk v0 hw r) _ (by decide) f b Q

/-- Equal slot numbers have equal semaphores in. -/
theorem inSem_congr {s s' : ℕ} (e : s = s') (h : s < 7) (h' : s' < 7) : inSem s h = inSem s' h' := by subst e; rfl
/-- Equal slot numbers have equal semaphores out. -/
theorem outSem_congr {s s' : ℕ} (e : s = s') (h : s < 7) (h' : s' < 7) : outSem s h = outSem s' h' := by subst e; rfl
/-- Equal slot numbers have equal slots. -/
theorem slot_congr {s s' : ℕ} (e : s = s') (h : s < 7) (h' : s' < 7) : slot s h = slot s' h' := by subst e; rfl

/-- A chunk out of its slot and the slot's next chunk started into it. -/
theorem wp_pass (r r' : Fin 14) (hs : slotM r = slotM r') (f f' : Table F) (b b' : ℕ) (Q : PUnit → sProp 𝕄) :
    iprop(Held c (bChunk r) f b ∗ Own c (oChunk v0 hw r) ∗ Sem0 c (outSem (slotM r) (slotM_lt r)) ∗ Held c (qChunk v0 r') f' b'
        ∗ Sem0 c (inSem (slotM r) (slotM_lt r)) ∗ Owes c)
      ⊢ iprop(((Held c (oChunk v0 hw r) f b ∗ InFlight c v0 hw r' f' b' ∗ Sem0 c (outSem (slotM r') (slotM_lt r')) ∗ Owes c) -∗ Q ⟨⟩)
        -∗ run c (pass v0 hw r r') Q) := by
  unfold pass
  rw [run, wp_bind, wp_bind]
  iintro ⟨Hb, Ho, HSo, Hq, HSi, HO⟩ Hk
  iapply (wp_startOut c v0 hw r f b) $$ [Hb Ho HSo]
  · isplitl [Hb]; · iexact Hb
    isplitl [Ho]; · iexact Ho
    iexact HSo
  iintro HF
  iapply (wp_waitOut c v0 hw r f b) $$ [HF HO]
  · isplitl [HF]; · iexact HF
    iexact HO
  rw [show bChunk r = bChunk r' from slot_congr hs (slotM_lt r) (slotM_lt r'), inSem_congr hs (slotM_lt r) (slotM_lt r'), outSem_congr hs (slotM_lt r) (slotM_lt r')]
  iintro ⟨Ho, Hb, HSo, HO⟩
  iapply (wp_startIn c v0 hw r' f' b') $$ [Hq Hb HSi]
  · isplitl [Hq]; · iexact Hq
    isplitl [Hb]; · iapply (held_own c (bChunk r') f b) $$ Hb
    iexact HSi
  iintro HF
  iapply Hk
  isplitl [Ho]; · iexact Ho
  isplitl [HF]; · iexact HF
  isplitl [HSo]; · iexact HSo
  iexact HO

/-! ## Split chunks -/

/-- An action for each quarter, run with what each quarter needs and what goes from one to the next. -/
theorem wp_each4 (p : Fin 4 → Prog (TpuEff nD τ sig (Elt F) Λ₀ Proc.tc) PUnit) (P P' : Fin 4 → sProp 𝕄) (I : ℕ → sProp 𝕄)
    (h : ∀ (k : Fin 4) (Q : PUnit → sProp 𝕄), iprop(P k ∗ I k.val) ⊢ iprop(((P' k ∗ I (k.val + 1)) -∗ Q ⟨⟩) -∗ run c (p k) Q))
    (Q : PUnit → sProp 𝕄) :
    iprop(bigSep Finset.univ P ∗ I 0) ⊢ iprop(((bigSep Finset.univ P' ∗ I 4) -∗ Q ⟨⟩) -∗ run c (each4 p) Q) := by
  have step : ∀ (k : Fin 4) (i i' : ℕ) (hi : k.val = i) (hi' : k.val + 1 = i') (Q : PUnit → sProp 𝕄),
      iprop(P k ∗ I i) ⊢ iprop(((P' k ∗ I i') -∗ Q ⟨⟩) -∗ run c (p k) Q) := fun k i i' hi hi' Q => by
    subst hi hi'; exact h k Q
  rw [bigSep_four, bigSep_four]
  unfold each4
  rw [run, wp_bind, wp_bind, wp_bind]
  iintro ⟨⟨H0, H1, H2, H3⟩, HI⟩ Hk
  iapply (step 0 0 1 rfl rfl) $$ [H0 HI]
  · isplitl [H0]; · iexact H0
    iexact HI
  iintro ⟨H0, HI⟩
  iapply (step 1 1 2 rfl rfl) $$ [H1 HI]
  · isplitl [H1]; · iexact H1
    iexact HI
  iintro ⟨H1, HI⟩
  iapply (step 2 2 3 rfl rfl) $$ [H2 HI]
  · isplitl [H2]; · iexact H2
    iexact HI
  iintro ⟨H2, HI⟩
  iapply (step 3 3 4 rfl rfl) $$ [H3 HI]
  · isplitl [H3]; · iexact H3
    iexact HI
  iintro ⟨H3, HI⟩
  iapply Hk
  isplitr [HI]
  · isplitl [H0]; · iexact H0
    isplitl [H1]; · iexact H1
    isplitl [H2]; · iexact H2
    iexact H3
  · iexact HI

/-- Quarter `k` of a split chunk on its way in. -/
abbrev InQ (u : Fin 2) (f : Table F) (b : ℕ) (k : Fin 4) : sProp 𝕄 :=
  Flight c (hQuarter v0 hw qM u k) (bQuarter u k) (fillSem k) f (b + k.val * 4096)

/-- What a quarter's copy out gives back. -/
abbrev outQ (u : Fin 2) (f : Table F) (b : ℕ) (k : Fin 4) : sProp 𝕄 :=
  landed c (bQuarter u k) (hQuarter v0 hw oM u k) f (b + k.val * 4096)

/-- The units of a quarter's copy out. -/
abbrev outN (u : Fin 2) : ℕ := (hQuarter v0 hw oM u 0).view.dmaCredit

/-- Starting the four quarters of a split chunk in, each on a semaphore of its own. -/
theorem wp_startInQ (u : Fin 2) (f : Table F) (b : ℕ) (Q : PUnit → sProp 𝕄) :
    iprop((bigSep Finset.univ fun k => iprop(Held c (hQuarter v0 hw qM u k) f (b + k.val * 4096) ∗ Own c (bQuarter u k) ∗ Sem0 c (fillSem k))))
      ⊢ iprop(((bigSep Finset.univ (InQ c v0 hw u f b)) -∗ Q ⟨⟩) -∗ run c (each4 (startInQ v0 hw u)) Q) := by
  have step : ∀ (k : Fin 4) (Q : PUnit → sProp 𝕄),
      iprop(iprop(Held c (hQuarter v0 hw qM u k) f (b + k.val * 4096) ∗ Own c (bQuarter u k) ∗ Sem0 c (fillSem k)) ∗ iprop(emp))
        ⊢ iprop(((InQ c v0 hw u f b k ∗ emp) -∗ Q ⟨⟩) -∗ run c (startInQ v0 hw u k) Q) := fun k Q => by
    iintro ⟨⟨Hq, Hb, HS⟩, -⟩ Hk
    iapply (wp_start_one c (hQuarter v0 hw qM u k) (bQuarter u k) (fillSem k) trivial f (b + k.val * 4096)) $$ [Hq Hb HS]
    · isplitl [Hq]; · iexact Hq
      isplitl [Hb]; · iexact Hb
      iexact HS
    iintro HF
    iapply Hk
    isplitl [HF]; · iexact HF
    iempintro
  iintro H Hk
  iapply (wp_each4 c (startInQ v0 hw u) _ (InQ c v0 hw u f b) (fun _ => iprop(emp)) step) $$ [H]
  · isplitl [H]; · iexact H
    iempintro
  iintro ⟨H, -⟩
  iapply Hk $$ H

/-- Each quarter of a split chunk is waited for and started out; the four copies out share one semaphore. -/
theorem wp_turnQ (u : Fin 2) (f : Table F) (b : ℕ) (Q : PUnit → sProp 𝕄) :
    iprop((bigSep Finset.univ fun k => iprop(InQ c v0 hw u f b k ∗ Own c (hQuarter v0 hw oM u k))) ∗ Sem0 c (outSem (slotS u) (slotS_lt u)) ∗ Owes c)
      ⊢ iprop((((bigSep Finset.univ fun k => iprop(Held c (hQuarter v0 hw qM u k) f (b + k.val * 4096) ∗ Sem0 c (fillSem k)))
          ∗ Bt c (outSem (slotS u) (slotS_lt u)) (outN v0 hw u) (outQ c v0 hw u f b) 4 0 ∗ Owes c) -∗ Q ⟨⟩)
        -∗ run c (each4 (turnQ v0 hw u)) Q) := by
  have step : ∀ (k : Fin 4) (Q : PUnit → sProp 𝕄),
      iprop(iprop(InQ c v0 hw u f b k ∗ Own c (hQuarter v0 hw oM u k))
          ∗ iprop(Bt c (outSem (slotS u) (slotS_lt u)) (outN v0 hw u) (outQ c v0 hw u f b) k.val 0 ∗ Owes c))
        ⊢ iprop(((iprop(Held c (hQuarter v0 hw qM u k) f (b + k.val * 4096) ∗ Sem0 c (fillSem k))
            ∗ iprop(Bt c (outSem (slotS u) (slotS_lt u)) (outN v0 hw u) (outQ c v0 hw u f b) (k.val + 1) 0 ∗ Owes c)) -∗ Q ⟨⟩)
          -∗ run c (turnQ v0 hw u k) Q) := fun k Q => by
    unfold turnQ
    rw [run, wp_bind]
    iintro ⟨⟨HF, Ho⟩, HB, HO⟩ Hk
    iapply (wp_wait_one c (hQuarter v0 hw qM u k) (bQuarter u k) (fillSem k) (by decide) f (b + k.val * 4096)) $$ [HF HO]
    · isplitl [HF]; · iexact HF
      iexact HO
    iintro ⟨Hb, Hq, HS, HO⟩
    iapply (wp_start c (bQuarter u k) (hQuarter v0 hw oM u k) (outSem (slotS u) (slotS_lt u)) trivial (N := outN v0 hw u) rfl
      (D := outQ c v0 hw u f b) (j := k.val) (u := 0) k.isLt (Nat.zero_le _) f (b + k.val * 4096) .rfl) $$ [Hb Ho HB]
    · isplitl [Hb]; · iexact Hb
      isplitl [Ho]; · iexact Ho
      iexact HB
    iintro HB
    iapply Hk
    isplitl [Hq HS]
    · isplitl [Hq]; · iexact Hq
      iexact HS
    isplitl [HB]; · iexact HB
    iexact HO
  iintro ⟨H, HS, HO⟩ Hk
  imod (bt_alloc c _ (outN v0 hw u) (outQ c v0 hw u f b)) $$ HS with HB
  iapply (wp_each4 c (turnQ v0 hw u) _ (fun k => iprop(Held c (hQuarter v0 hw qM u k) f (b + k.val * 4096) ∗ Sem0 c (fillSem k)))
    (fun j => iprop(Bt c (outSem (slotS u) (slotS_lt u)) (outN v0 hw u) (outQ c v0 hw u f b) j 0 ∗ Owes c)) step) $$ [H HB HO]
  · isplitl [H]; · iexact H
    isplitl [HB]; · iexact HB
    iexact HO
  iexact Hk

/-- Waiting for the four quarters of a split chunk out: all of them have landed after the last wait. -/
theorem wp_waitOutQ (u : Fin 2) (f : Table F) (b : ℕ) (Q : PUnit → sProp 𝕄) :
    iprop(Bt c (outSem (slotS u) (slotS_lt u)) (outN v0 hw u) (outQ c v0 hw u f b) 4 0 ∗ Owes c)
      ⊢ iprop(((bigSep Finset.univ (outQ c v0 hw u f b) ∗ Sem0 c (outSem (slotS u) (slotS_lt u)) ∗ Owes c) -∗ Q ⟨⟩)
        -∗ run c (each4 (waitOutQ v0 hw u)) Q) := by
  have hpos : 0 < outN v0 hw u := (hQuarter v0 hw oM u 0).view.dmaCredit_pos (rows_pos (by decide))
  have step : ∀ (k : Fin 4) (i i' : ℕ) (hk : i < 3) (hi : i' = i + 1) (Q : PUnit → sProp 𝕄),
      iprop(Bt c (outSem (slotS u) (slotS_lt u)) (outN v0 hw u) (outQ c v0 hw u f b) 4 (i * outN v0 hw u) ∗ Owes c)
        ⊢ iprop(((Bt c (outSem (slotS u) (slotS_lt u)) (outN v0 hw u) (outQ c v0 hw u f b) 4 (i' * outN v0 hw u) ∗ Owes c) -∗ Q ⟨⟩)
          -∗ run c (waitOutQ v0 hw u k) Q) := fun k i i' hk hi Q => by
    subst hi
    rw [Nat.succ_mul]
    exact wp_wait_skip c (bQuarter u k) (hQuarter v0 hw oM u k) (outSem (slotS u) (slotS_lt u)) (N := outN v0 hw u) rfl
      (D := outQ c v0 hw u f b) (u := i * outN v0 hw u)
      (by have := Nat.mul_le_mul_right (outN v0 hw u) (show i + 2 ≤ 4 by omega); rw [Nat.add_mul] at this; omega) Q
  unfold each4
  rw [run, wp_bind, wp_bind, wp_bind]
  iintro ⟨HB, HO⟩ Hk
  iapply (step 0 0 1 (by decide) rfl) $$ [HB HO]
  · rw [Nat.zero_mul]
    isplitl [HB]; · iexact HB
    iexact HO
  iintro H
  iapply (step 1 1 2 (by decide) rfl) $$ H
  iintro H
  iapply (step 2 2 3 (by decide) rfl) $$ H
  iintro H
  iapply (wp_wait_last c (bQuarter u 3) (hQuarter v0 hw oM u 3) (outSem (slotS u) (slotS_lt u)) (N := outN v0 hw u) rfl hpos
    (D := outQ c v0 hw u f b) (u := 3 * outN v0 hw u) (by omega)) $$ H
  iexact Hk

end Cert.Kernel.Hand

end
-- ==== Proof.Parts.lean ====
/- The queue as sixteen chunks, the result's table, and the groups of transfers with it. -/
module

public import proofs.«01_k».proof.Proof.Groups

@[expose] public section

noncomputable section

namespace Cert.Kernel.Hand

open Cert.Kernel Cert.Kernel.Gen
open Idealize.ShloMosaic Idealize.ShloMosaic.TcCoe Idealize.ShloMosaic.Tactic
open Idealize.SL
open Idealize.SL.BI (sProp Storable bigSep)
open scoped Idealize.SL.BI
open Idealize.SL.BI.BIBase Idealize.SL.BI.Laws Idealize.SL.ProofMode Idealize.SL.Sem
open Idealize.SL.RA

variable {F : FTy → Type} [FloatOps F]

local notation "𝕄" => MT nD τ sig Unit (Elt F) ℕ (Pipeline.UD sig nD τ) ℕ

variable (c : Dev nD) (v0 : BitVec 32) (hw : k0_chk1 v0)

/-! ## Wholes -/

/-- The block of all the rows of a memref has the memref's elements. -/
theorem rowsOf_whole_set {sp : Space} {R : ℕ} (M : Memref sig .tc sp (Rows R) .f32) (h : 0 + R ≤ R) :
    (rowsOf M 0 R h).view.set = M.view.set := by
  ext y
  rw [mem_rowsOf]
  constructor
  · rintro ⟨z, rfl, -⟩; exact View.emb_mem_set _ z
  · intro hy
    obtain ⟨z, -, rfl⟩ : ∃ z : (Rows R).Idx, z ∈ Finset.univ ∧ M.view.emb z = y := Finset.mem_map.mp hy
    exact ⟨z, rfl, Nat.zero_le _, by rw [Nat.zero_add]; exact (z 0).isLt⟩

/-- An index of the block of all rows lies at its own place. -/
theorem place_whole {R : ℕ} (h : 0 + R ≤ R) (x : (Rows R).Idx) : place 0 R h x = x := by
  funext i
  apply Fin.ext
  match i with
  | 0 => exact Nat.zero_add _
  | 1 => rfl

/-- A memref is the block of all its rows. -/
theorem held_whole {sp : Space} {R : ℕ} (M : Memref sig .tc sp (Rows R) .f32) (h : 0 + R ≤ R) (f : Table F) (b : ℕ) :
    Held c (rowsOf M 0 R h) f b = (Held c M f b : sProp 𝕄) := by
  have hr : ∀ (v : M.view.ty.Contents (Elt F)) (x : (Rows R).Idx), (rowsOf M 0 R h).view.read (Elt F) v x = M.view.read (Elt F) v x := fun v x => by
    rw [read_rowsOf, place_whole]
  have h₁ : Held c (rowsOf M 0 R h) f b ⊢ (Held c M f b : sProp 𝕄) := by
    unfold Held
    rw [rowsOf_whole_set]
    iintro ⟨%v, %hv, H⟩
    iexists v
    isplitr
    · ipureintro; exact fun x => (hr v x).symm.trans (hv x)
    · iexact H
  have h₂ : Held c M f b ⊢ (Held c (rowsOf M 0 R h) f b : sProp 𝕄) := by
    unfold Held
    rw [rowsOf_whole_set]
    iintro ⟨%v, %hv, H⟩
    iexists v
    isplitr
    · ipureintro; exact fun x => (hr v x).trans (hv x)
    · iexact H
  exact BI.equiv_iff.mp ⟨h₁, h₂⟩
/-- Owning the block of all the rows of a memref is owning the memref. -/
theorem own_whole {sp : Space} {R : ℕ} (M : Memref sig .tc sp (Rows R) .f32) (h : 0 + R ≤ R) :
    Own (F := F) c (rowsOf M 0 R h) = (Own c M : sProp 𝕄) := by
  unfold Own
  rw [rowsOf_whole_set]

/-- A conjunction of conjunctions. -/
theorem bigSep_pairs {T : Type} (S : Finset T) (Φ Ψ : T → sProp 𝕄) :
    (bigSep S fun t => iprop(Φ t ∗ Ψ t)) = iprop(bigSep S Φ ∗ bigSep S Ψ : sProp 𝕄) := BI.bigSep_sep ..

/-! ## The sixteen chunks -/

/-- The chunks: those of one slot each, and the two split ones. -/
abbrev Chunk : Type := Fin 14 ⊕ Fin 2
/-- How many rows after the pointer's chunk a chunk lies. -/
def rel : Chunk → ℕ := Sum.elim relM relS
/-- The first row of a chunk. -/
abbrev base (t : Chunk) : ℕ := Sum.elim (baseM v0) (baseS v0) t

/-- A chunk's first row, from the pointer's chunk and the distance, around the queue's end. -/
theorem base_eq (t : Chunk) : base v0 t = (ptrN v0 / 16384 * 16384 + rel t) % 262144 := by
  cases t <;> rfl
/-- Every chunk lies in the queue. -/
theorem base_le (t : Chunk) : base v0 t + 16384 ≤ 262144 := by
  cases t with
  | inl r => exact baseM_le v0 r
  | inr u => exact baseS_le v0 u
/-- Every multiple of 16384 below the queue's length is some chunk's distance. -/
theorem rel_onto : ∀ m : Fin 16, ∃ t, rel t = m.val * 16384 := by decide
/-- Different chunks have different distances. -/
theorem rel_inj : ∀ t t', rel t = rel t' → t = t' := by decide
/-- Every distance is a multiple of 16384 below the queue's length. -/
theorem rel_pos : ∀ t, ∃ m : Fin 16, rel t = m.val * 16384 := by decide

/-- The chunks tile the queue. -/
theorem tiles_chunks : Tiles 0 262144 (base v0) (fun _ => 16384) where
  cover i := by
    have hp := ptrN_le v0
    constructor
    · rintro ⟨-, h⟩
      obtain ⟨t, ht⟩ := rel_onto ⟨(i / 16384 + 16 - ptrN v0 / 16384) % 16, Nat.mod_lt _ (by decide)⟩
      have ht : rel t = (i / 16384 + 16 - ptrN v0 / 16384) % 16 * 16384 := ht
      refine ⟨t, ?_, ?_⟩ <;> rw [base_eq, ht] <;> omega
    · rintro ⟨t, h1, h2⟩
      have := base_le v0 t
      exact ⟨Nat.zero_le _, by omega⟩
  apart t t' h := by
    obtain ⟨m, hm⟩ := rel_pos t
    obtain ⟨m', hm'⟩ := rel_pos t'
    have hne : m.val ≠ m'.val := fun e => h (rel_inj t t' (by rw [hm, hm', e]))
    rw [base_eq, base_eq, hm, hm']
    have := m.isLt; have := m'.isLt
    omega

/-- A conjunction over the chunks. -/
theorem bigSep_chunks (Φ : Chunk → sProp 𝕄) :
    bigSep Finset.univ Φ = iprop(Φ (.inl 0) ∗ Φ (.inl 1) ∗ Φ (.inl 2) ∗ Φ (.inl 3) ∗ Φ (.inl 4) ∗ Φ (.inl 5) ∗ Φ (.inl 6) ∗ Φ (.inl 7) ∗ Φ (.inl 8)
      ∗ Φ (.inl 9) ∗ Φ (.inl 10) ∗ Φ (.inl 11) ∗ Φ (.inl 12) ∗ Φ (.inl 13) ∗ Φ (.inr 0) ∗ Φ (.inr 1)) :=
  BI.bigSep_univ_eq_bigSepL ([.inl 0, .inl 1, .inl 2, .inl 3, .inl 4, .inl 5, .inl 6, .inl 7, .inl 8, .inl 9, .inl 10, .inl 11, .inl 12, .inl 13,
    .inr 0, .inr 1] : List Chunk) (by decide) (by decide) Φ

/-- A buffer of the queue's shape is held by its chunks. -/
theorem held_chunks (M : Memref sig .tc .hbm S262144x128 .f32) (f : Table F) :
    Held c M f 0 = (bigSep Finset.univ fun t => Held c (rowsOf M (base v0 t) 16384 (base_le v0 t)) f (base v0 t) : sProp 𝕄) := by
  rw [← held_whole c M (Nat.le_refl 262144)]
  exact BI.equiv_iff.mp ⟨held_split M (Nat.le_refl 262144) (base_le v0) c f (tiles_chunks v0) (B := 0) (b := base v0) (fun t => Nat.add_comm _ _),
    held_join M (Nat.le_refl 262144) (base_le v0) c f (tiles_chunks v0) (B := 0) (b := base v0) (fun t => Nat.add_comm _ _)⟩
/-- A buffer of the queue's shape is owned by its chunks. -/
theorem own_chunks (M : Memref sig .tc .hbm S262144x128 .f32) :
    Own (F := F) c M = (bigSep Finset.univ fun t => Own c (rowsOf M (base v0 t) 16384 (base_le v0 t)) : sProp 𝕄) := by
  rw [← own_whole c M (Nat.le_refl 262144)]
  exact BI.equiv_iff.mp ⟨own_split M (Nat.le_refl 262144) (base_le v0) c (tiles_chunks v0), own_join M (Nat.le_refl 262144) (base_le v0) c (tiles_chunks v0)⟩

/-- The slots tile their buffer. -/
theorem own_slots : Own (F := F) c bM = (bigSep Finset.univ fun s : Fin 7 => Own c (slot s.val s.isLt) : sProp 𝕄) := by
  have hT : Tiles 0 114688 (fun s : Fin 7 => s.val * 16384) (fun _ => 16384) := by
    have := tiles_uniform 0 7 16384
    simp only [Nat.zero_add] at this
    exact this
  rw [← own_whole c bM (Nat.le_refl 114688)]
  exact BI.equiv_iff.mp ⟨own_split bM (Nat.le_refl 114688) (fun s : Fin 7 => by have := s.isLt; omega) c hT,
    own_join bM (Nat.le_refl 114688) (fun s : Fin 7 => by have := s.isLt; omega) c hT⟩

/-- A block of a chunk's length by quarters. -/
theorem held_quarters {sp : Space} {R : ℕ} (M : Memref sig .tc sp (Rows R) .f32) (A : ℕ) (hA : A + 16384 ≤ R) (hk : ∀ k : Fin 4, A + k.val * 4096 + 4096 ≤ R)
    (f : Table F) (b : ℕ) :
    Held c (rowsOf M A 16384 hA) f b = (bigSep Finset.univ fun k : Fin 4 => Held c (rowsOf M (A + k.val * 4096) 4096 (hk k)) f (b + k.val * 4096) : sProp 𝕄) :=
  BI.equiv_iff.mp ⟨held_split M hA hk c f (tiles_uniform A 4 4096) (B := b) (b := fun k => b + k.val * 4096) (fun t => by omega),
    held_join M hA hk c f (tiles_uniform A 4 4096) (B := b) (b := fun k => b + k.val * 4096) (fun t => by omega)⟩
/-- A block of 16384 rows owned is its four quarters owned. -/
theorem own_quarters {sp : Space} {R : ℕ} (M : Memref sig .tc sp (Rows R) .f32) (A : ℕ) (hA : A + 16384 ≤ R) (hk : ∀ k : Fin 4, A + k.val * 4096 + 4096 ≤ R) :
    Own (F := F) c (rowsOf M A 16384 hA) = (bigSep Finset.univ fun k : Fin 4 => Own c (rowsOf M (A + k.val * 4096) 4096 (hk k)) : sProp 𝕄) :=
  BI.equiv_iff.mp ⟨own_split M hA hk c (tiles_uniform A 4 4096), own_join M hA hk c (tiles_uniform A 4 4096)⟩

/-- A split chunk held is its four quarters held. -/
theorem held_sChunk (M : Memref sig .tc .hbm S262144x128 .f32) (u : Fin 2) (f : Table F) (b : ℕ) :
    Held c (sChunk v0 M u) f b = (bigSep Finset.univ fun k : Fin 4 => Held c (hQuarter v0 hw M u k) f (b + k.val * 4096) : sProp 𝕄) := by
  simp only [hQuarter_eq]
  exact held_quarters c M (baseS v0 u) (baseS_le v0 u) (qQuarter_le v0 u) f b
/-- A split chunk owned is its four quarters owned. -/
theorem own_sChunk (M : Memref sig .tc .hbm S262144x128 .f32) (u : Fin 2) :
    Own (F := F) c (sChunk v0 M u) = (bigSep Finset.univ fun k : Fin 4 => Own c (hQuarter v0 hw M u k) : sProp 𝕄) := by
  simp only [hQuarter_eq]
  exact own_quarters c M (baseS v0 u) (baseS_le v0 u) (qQuarter_le v0 u)
/-- A split chunk's slot owned is its four quarters owned. -/
theorem own_slotS (u : Fin 2) :
    Own (F := F) c (slot (slotS u) (slotS_lt u)) = (bigSep Finset.univ fun k : Fin 4 => Own c (bQuarter u k) : sProp 𝕄) :=
  own_quarters c bM (slotS u * 16384) (by have := slotS_lt u; omega) (quarter_le u)

/-! ## The result's table -/

/-- The queue with the embeddings written from the pointer's row. -/
def merged (q e : Table F) : Table F := fun i j => if ptrN v0 ≤ i ∧ i < ptrN v0 + 4096 then e (i - ptrN v0) j else q i j

/-- Outside the pointer's block and the next, a chunk is the queue's. -/
theorem merged_off (q e : Table F) {r : ℕ} (h1 : 32768 ≤ r) (h2 : r ≤ 245760) {i j : ℕ} (hi : i < 16384) :
    merged v0 q e (baseN v0 r + i) j = q (baseN v0 r + i) j := by
  unfold merged
  have hp := ptrN_le v0
  rw [if_neg]
  unfold baseN
  omega

variable (q e : Table F)

/-- A chunk of one slot that the embeddings do not reach has the same rows in the queue and in the result. -/
theorem held_mid {sp : Space} (m : Memref sig .tc sp (Rows 16384) .f32) (r : Fin 14) (hr : 32768 ≤ relM r) :
    Held c m q (baseM v0 r) = (Held c m (merged v0 q e) (baseM v0 r) : sProp 𝕄) :=
  held_congr c m fun i j hi _ => (merged_off v0 q e hr (by have := relM_le r; omega) hi).symm
/-- A split chunk, which the embeddings do not reach, has the same rows in the queue and in the result. -/
theorem held_end {sp : Space} (m : Memref sig .tc sp (Rows 16384) .f32) (u : Fin 2) :
    Held c m q (baseS v0 u) = (Held c m (merged v0 q e) (baseS v0 u) : sProp 𝕄) :=
  held_congr c m fun i j hi _ => (merged_off v0 q e (r := relS u) (by unfold relS; omega) (by unfold relS; omega) hi).symm

/-! ## Chunks of one slot, with the queue's and the result's rows -/

/-- Chunk `r` on its way into its slot. -/
abbrev Coming (r : Fin 14) : sProp 𝕄 := InFlight c v0 hw r q (baseM v0 r)

/-- Waiting for a chunk that the embeddings do not reach: the slot holds the result's rows. -/
theorem wp_waitMid (r : Fin 14) (hr : 32768 ≤ relM r) (Q : PUnit → sProp 𝕄) :
    iprop(Coming c v0 hw q r ∗ Owes c)
      ⊢ iprop(((Held c (bChunk r) (merged v0 q e) (baseM v0 r) ∗ Held c (qChunk v0 r) q (baseM v0 r) ∗ Sem0 c (inSem (slotM r) (slotM_lt r)) ∗ Owes c) -∗ Q ⟨⟩)
        -∗ run c (waitIn v0 hw r) Q) := by
  rw [← held_mid c v0 q e (bChunk r) r hr]
  exact wp_waitIn c v0 hw r q (baseM v0 r) Q

/-! ## Split chunks, whole -/

/-- A split chunk's quarters on their way in, and on their way out. -/
abbrev ComingS (u : Fin 2) : sProp 𝕄 := bigSep Finset.univ (InQ c v0 hw u q (baseS v0 u))
/-- A split chunk's quarters on their way out. -/
abbrev GoingS (u : Fin 2) : sProp 𝕄 := Bt c (outSem (slotS u) (slotS_lt u)) (outN v0 hw u) (outQ c v0 hw u q (baseS v0 u)) 4 0

/-- Starting a split chunk in. -/
theorem wp_fill (u : Fin 2) (Q : PUnit → sProp 𝕄) :
    iprop(Held c (sChunk v0 qM u) q (baseS v0 u) ∗ Own c (slot (slotS u) (slotS_lt u)) ∗ bigSep Finset.univ fun k => Sem0 c (fillSem k))
      ⊢ iprop((ComingS c v0 hw q u -∗ Q ⟨⟩) -∗ run c (each4 (startInQ v0 hw u)) Q) := by
  rw [held_sChunk c v0 hw, own_slotS, ← bigSep_pairs, ← bigSep_pairs]
  exact wp_startInQ c v0 hw u q (baseS v0 u) Q

/-- A split chunk arrives, quarter by quarter, and is started out. -/
theorem wp_turnS (u : Fin 2) (Q : PUnit → sProp 𝕄) :
    iprop(ComingS c v0 hw q u ∗ Own c (sChunk v0 oM u) ∗ Sem0 c (outSem (slotS u) (slotS_lt u)) ∗ Owes c)
      ⊢ iprop(((Held c (sChunk v0 qM u) q (baseS v0 u) ∗ (bigSep Finset.univ fun k => Sem0 c (fillSem k)) ∗ GoingS c v0 hw q u ∗ Owes c) -∗ Q ⟨⟩)
        -∗ run c (each4 (turnQ v0 hw u)) Q) := by
  rw [held_sChunk c v0 hw, own_sChunk c v0 hw]
  have h := wp_turnQ c v0 hw u q (baseS v0 u) Q
  rw [bigSep_pairs, bigSep_pairs] at h
  iintro ⟨HC, Ho, HS, HO⟩ Hk
  iapply h $$ [HC Ho HS HO]
  · isplitl [HC Ho]
    · isplitl [HC]; · iexact HC
      iexact Ho
    isplitl [HS]; · iexact HS
    iexact HO
  iintro ⟨⟨Hq, HF⟩, HG, HO⟩
  iapply Hk
  isplitl [Hq]; · iexact Hq
  isplitl [HF]; · iexact HF
  isplitl [HG]; · iexact HG
  iexact HO

/-- A split chunk is out: the result's rows are written and its slot is free. -/
theorem wp_drain (u : Fin 2) (Q : PUnit → sProp 𝕄) :
    iprop(GoingS c v0 hw q u ∗ Owes c)
      ⊢ iprop(((Held c (sChunk v0 oM u) (merged v0 q e) (baseS v0 u) ∗ Own c (slot (slotS u) (slotS_lt u)) ∗ Sem0 c (outSem (slotS u) (slotS_lt u)) ∗ Owes c) -∗ Q ⟨⟩)
        -∗ run c (each4 (waitOutQ v0 hw u)) Q) := by
  rw [← held_end c v0 q e, held_sChunk c v0 hw, own_slotS]
  iintro H Hk
  iapply (wp_waitOutQ c v0 hw u q (baseS v0 u)) $$ H
  unfold outQ landed
  rw [bigSep_pairs]
  iintro ⟨⟨Ho, Hb⟩, HS, HO⟩
  iapply Hk
  isplitl [Ho]; · iexact Ho
  isplitl [Hb]
  · have h : (bigSep Finset.univ fun k => Held c (bQuarter u k) q (baseS v0 u + k.val * 4096) : sProp 𝕄) ⊢ bigSep Finset.univ fun k => Own c (bQuarter u k) :=
      BI.bigSep_mono fun k _ => held_own c (bQuarter u k) q (baseS v0 u + k.val * 4096)
    iapply h $$ Hb
  isplitl [HS]; · iexact HS
  iexact HO

/-! ## The splice -/

/-- The embeddings on their way to their staging buffer. -/
abbrev ComingE : sProp 𝕄 := Flight c eM ebM embSem e 0

/-- Starting the embeddings on their way to their staging buffer. -/
theorem wp_startEmb (Q : PUnit → sProp 𝕄) :
    iprop(Held c eM e 0 ∗ Own c ebM ∗ Sem0 c embSem) ⊢ iprop((ComingE c e -∗ Q ⟨⟩) -∗ run c startEmb Q) :=
  wp_start_one c eM ebM embSem trivial e 0 Q

/-- The two slots of the pointer's block and the next, as one table by the slots' rows. -/
def spread : Table F := fun i j => if i < 49152 then q (baseM v0 1 + (i - 32768)) j else q (baseM v0 2 + (i - 49152)) j
/-- The same with the embeddings over the rows they replace. -/
def spliced : Table F := fun i j =>
  if 32768 + ptrN v0 % 16384 ≤ i ∧ i < 32768 + ptrN v0 % 16384 + 4096 then e (i - (32768 + ptrN v0 % 16384)) j else spread v0 q i j

/-- The chunk at position 2 is the pointer's chunk. -/
theorem baseM_one : baseM v0 1 = ptrN v0 / 16384 * 16384 := by
  have := ptrN_le v0
  show (ptrN v0 / 16384 * 16384 + 0) % 262144 = _
  omega
/-- The chunk at position 3 is the next one, around the queue's end. -/
theorem baseM_two : baseM v0 2 = (ptrN v0 / 16384 * 16384 + 16384) % 262144 := rfl

/-- The spread table's first 16384 rows are the pointer's chunk of the queue. -/
theorem spread_one {i j : ℕ} (hi : i < 16384) : q (baseM v0 1 + i) j = spread v0 q (32768 + i) j := by
  unfold spread
  rw [if_pos (by omega), Nat.add_sub_cancel_left]
/-- The spread table's next 16384 rows are the next chunk of the queue. -/
theorem spread_two {i j : ℕ} : q (baseM v0 2 + i) j = spread v0 q (49152 + i) j := by
  unfold spread
  rw [if_neg (by omega), Nat.add_sub_cancel_left]

/-- The spliced table's first 16384 rows are the pointer's chunk of the result. -/
theorem spliced_one {i j : ℕ} (hi : i < 16384) : spliced v0 q e (32768 + i) j = merged v0 q e (baseM v0 1 + i) j := by
  unfold spliced merged
  rw [← spread_one v0 q hi, baseM_one]
  by_cases h : ptrN v0 ≤ ptrN v0 / 16384 * 16384 + i ∧ ptrN v0 / 16384 * 16384 + i < ptrN v0 + 4096
  · rw [if_pos h, if_pos (by omega)]
    exact congrArg (e · j) (by omega)
  · rw [if_neg h, if_neg (by omega)]

/-- The spliced table's next 16384 rows are the next chunk of the result. -/
theorem spliced_two {i j : ℕ} (hi : i < 16384) : spliced v0 q e (49152 + i) j = merged v0 q e (baseM v0 2 + i) j := by
  have hp := ptrN_le v0
  unfold spliced merged
  rw [← spread_two v0 q, baseM_two]
  by_cases h : ptrN v0 ≤ (ptrN v0 / 16384 * 16384 + 16384) % 262144 + i ∧ (ptrN v0 / 16384 * 16384 + 16384) % 262144 + i < ptrN v0 + 4096
  · rw [if_pos h, if_pos (by omega)]
    exact congrArg (e · j) (by omega)
  · rw [if_neg h, if_neg (by omega)]

/-- A block of the slots' buffer in two. -/
theorem held_bufTwo (A n m N A' : ℕ) (hA : A + N ≤ 114688) (h₁ : A + n ≤ 114688) (h₂ : A' + m ≤ 114688) (eA : A' = A + n) (eN : N = n + m) (f : Table F) :
    Held c (bufRows A N hA) f A = iprop(Held c (bufRows A n h₁) f A ∗ Held c (bufRows A' m h₂) f A' : sProp 𝕄) :=
  held_two bM c f A A' n m N A A' hA h₁ h₂ eA eN eA
/-- Slots 2 and 3 held together are the two slots held. -/
theorem held_pair (f : Table F) :
    Held c (bufRows 32768 32768 (by decide)) f 32768 = iprop(Held c (bChunk 1) f 32768 ∗ Held c (bChunk 2) f 49152 : sProp 𝕄) :=
  held_bufTwo c 32768 16384 16384 32768 49152 (by decide) (chunk_le 1) (chunk_le 2) (by decide) (by decide) f

/-- The rows that the embeddings replace lie in the slots. -/
theorem splice_le : 32768 + ptrN v0 % 16384 + 4096 ≤ 114688 := by omega
/-- What follows the embeddings' rows in slots 2 and 3 lies in the slots. -/
theorem tail_le : 32768 + ptrN v0 % 16384 + 4096 + (28672 - ptrN v0 % 16384) ≤ 114688 := by omega

/-- The two slots as what precedes the embeddings' rows, those rows, and what follows. -/
theorem held_three (f : Table F) :
    Held c (bufRows 32768 32768 (by decide)) f 32768 = iprop(Held c (bufRows 32768 (ptrN v0 % 16384) (by omega)) f 32768
      ∗ Held c (bSplice v0 hw) f (32768 + ptrN v0 % 16384)
      ∗ Held c (bufRows (32768 + ptrN v0 % 16384 + 4096) (28672 - ptrN v0 % 16384) (tail_le v0)) f (32768 + ptrN v0 % 16384 + 4096) : sProp 𝕄) := by
  rw [bSplice_eq, held_bufTwo c 32768 (ptrN v0 % 16384) (32768 - ptrN v0 % 16384) 32768 (32768 + ptrN v0 % 16384) (by decide) (by omega) (by omega) rfl (by omega),
    held_bufTwo c (32768 + ptrN v0 % 16384) 4096 (28672 - ptrN v0 % 16384) (32768 - ptrN v0 % 16384) (32768 + ptrN v0 % 16384 + 4096) (by omega)
      (splice_le v0) (tail_le v0) rfl (by omega)]

/-- The two slots by the embeddings' rows: the spread table's outside them, and the rest read alike in the spliced table. -/
theorem held_spliced :
    Held c (bufRows 32768 32768 (by decide)) (spliced v0 q e) 32768 = iprop(Held c (bufRows 32768 (ptrN v0 % 16384) (by omega)) (spread v0 q) 32768
      ∗ Held c (bSplice v0 hw) e 0
      ∗ Held c (bufRows (32768 + ptrN v0 % 16384 + 4096) (28672 - ptrN v0 % 16384) (tail_le v0)) (spread v0 q) (32768 + ptrN v0 % 16384 + 4096) : sProp 𝕄) := by
  rw [held_three c v0 hw]
  congr 1
  · exact held_congr c _ fun i j hi _ => by unfold spliced; rw [if_neg (by omega)]
  congr 1
  · exact held_congr c (bSplice v0 hw) fun i j hi _ => by
      unfold spliced; rw [if_pos (by omega), Nat.add_sub_cancel_left, Nat.zero_add]
  · exact held_congr c _ fun i j hi _ => by unfold spliced; rw [if_neg (by omega)]

/-- The embeddings arrive and go over the rows they replace: the pointer's block and the next are the result's. -/
theorem wp_splice (Q : PUnit → sProp 𝕄) :
    iprop(ComingE c e ∗ Held c (bChunk 1) q (baseM v0 1) ∗ Held c (bChunk 2) q (baseM v0 2) ∗ Owes c)
      ⊢ iprop(((Held c eM e 0 ∗ Held c (bChunk 1) (merged v0 q e) (baseM v0 1) ∗ Held c (bChunk 2) (merged v0 q e) (baseM v0 2) ∗ Own c ebM
          ∗ Sem0 c embSem ∗ Owes c) -∗ Q ⟨⟩) -∗ run c (splice v0 hw) Q) := by
  have e₁ : Held c (bChunk 1) q (baseM v0 1) = (Held c (bChunk 1) (spread v0 q) 32768 : sProp 𝕄) :=
    held_congr c _ fun i j hi _ => spread_one v0 q hi
  have e₂ : Held c (bChunk 2) q (baseM v0 2) = (Held c (bChunk 2) (spread v0 q) 49152 : sProp 𝕄) :=
    held_congr c _ fun i j hi _ => spread_two v0 q
  have e₃ : Held c (bChunk 1) (merged v0 q e) (baseM v0 1) = (Held c (bChunk 1) (spliced v0 q e) 32768 : sProp 𝕄) :=
    held_congr c _ fun i j hi _ => (spliced_one v0 q e hi).symm
  have e₄ : Held c (bChunk 2) (merged v0 q e) (baseM v0 2) = (Held c (bChunk 2) (spliced v0 q e) 49152 : sProp 𝕄) :=
    held_congr c _ fun i j hi _ => (spliced_two v0 q e hi).symm
  have split := (held_pair c (spread v0 q)).symm.trans (held_three c v0 hw (spread v0 q))
  have join := (held_spliced c v0 hw q e).symm.trans (held_pair c (spliced v0 q e))
  rw [e₁, e₂, e₃, e₄]
  unfold splice
  rw [run, wp_bind, wp_bind]
  iintro ⟨HE, H1, H2, HO⟩ Hk
  iapply (wp_wait_one c eM ebM embSem (by decide) e 0) $$ [HE HO]
  · isplitl [HE]; · iexact HE
    iexact HO
  iintro ⟨Heb, He, HS, HO⟩
  ihave H := (Entails.of_eq split) $$ [H1 H2]
  · isplitl [H1]; · iexact H1
    iexact H2
  icases H with ⟨Ha, Hm, Hb⟩
  iapply (wp_start_one c ebM (bSplice v0 hw) embSem trivial e 0) $$ [Heb Hm HS]
  · isplitl [Heb]; · iexact Heb
    isplitl [Hm]; · iapply (held_own c (bSplice v0 hw) (spread v0 q) (32768 + ptrN v0 % 16384)) $$ Hm
    iexact HS
  iintro HF
  iapply (wp_wait_one c ebM (bSplice v0 hw) embSem (by decide) e 0) $$ [HF HO]
  · isplitl [HF]; · iexact HF
    iexact HO
  iintro ⟨Hm, Heb, HS, HO⟩
  ihave H := (Entails.of_eq join) $$ [Ha Hm Hb]
  · isplitl [Ha]; · iexact Ha
    isplitl [Hm]; · iexact Hm
    iexact Hb
  icases H with ⟨H1, H2⟩
  iapply Hk
  isplitl [He]; · iexact He
  isplitl [H1]; · iexact H1
  isplitl [H2]; · iexact H2
  isplitl [Heb]; · iapply (held_own c ebM e 0) $$ Heb
  isplitl [HS]; · iexact HS
  iexact HO

end Cert.Kernel.Hand

end
-- ==== Proof.Whole.lean ====
/- The transfers, run from the whole buffers to the whole buffers. -/
module

public import proofs.«01_k».proof.Proof.Parts

@[expose] public section

noncomputable section

namespace Cert.Kernel.Hand

open Cert.Kernel Cert.Kernel.Gen
open Idealize.ShloMosaic Idealize.ShloMosaic.TcCoe Idealize.ShloMosaic.Tactic
open Idealize.SL
open Idealize.SL.BI (sProp Storable bigSep)
open scoped Idealize.SL.BI
open Idealize.SL.BI.BIBase Idealize.SL.BI.Laws Idealize.SL.ProofMode Idealize.SL.Sem
open Idealize.SL.RA

variable {F : FTy → Type} [FloatOps F]

local notation "𝕄" => MT nD τ sig Unit (Elt F) ℕ (Pipeline.UD sig nD τ) ℕ

variable (c : Dev nD) (v0 : BitVec 32) (hw : k0_chk1 v0)

/-! ## Lists of what the transfers use -/

/-- A conjunction over the chunks, the two kinds apart. -/
theorem bigSep_kinds {Θ : Chunk → sProp 𝕄} (Φ : Fin 14 → sProp 𝕄) (Ψ : Fin 2 → sProp 𝕄) (h₁ : ∀ r, Θ (.inl r) = Φ r) (h₂ : ∀ u, Θ (.inr u) = Ψ u) :
    bigSep Finset.univ Θ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Ψ 0 ∗ Ψ 1) := by
  rw [bigSep_chunks]; simp only [h₁, h₂]

/-- The seven slots in the order in which the chunks take them, the first seven chunks and the next seven. -/
theorem bigSep_slots (Φ : (s : ℕ) → s < 7 → sProp 𝕄) :
    (bigSep Finset.univ fun s : Fin 7 => Φ s.val s.isLt) = iprop(Φ (slotM 0) (slotM_lt 0) ∗ Φ (slotM 1) (slotM_lt 1) ∗ Φ (slotM 2) (slotM_lt 2)
      ∗ Φ (slotM 3) (slotM_lt 3) ∗ Φ (slotM 4) (slotM_lt 4) ∗ Φ (slotM 5) (slotM_lt 5) ∗ Φ (slotM 6) (slotM_lt 6)) :=
  BI.bigSep_univ_eq_bigSepL ([1, 2, 3, 4, 5, 6, 0] : List (Fin 7)) (by decide) (by decide) (fun s : Fin 7 => Φ s.val s.isLt)
/-- The seven slots in the order in which the last seven of the fourteen chunks take them. -/
theorem bigSep_slots' (Φ : (s : ℕ) → s < 7 → sProp 𝕄) :
    (bigSep Finset.univ fun s : Fin 7 => Φ s.val s.isLt) = iprop(Φ (slotM 7) (slotM_lt 7) ∗ Φ (slotM 8) (slotM_lt 8) ∗ Φ (slotM 9) (slotM_lt 9)
      ∗ Φ (slotM 10) (slotM_lt 10) ∗ Φ (slotM 11) (slotM_lt 11) ∗ Φ (slotM 12) (slotM_lt 12) ∗ Φ (slotM 13) (slotM_lt 13)) :=
  BI.bigSep_univ_eq_bigSepL ([1, 2, 3, 4, 5, 6, 0] : List (Fin 7)) (by decide) (by decide) (fun s : Fin 7 => Φ s.val s.isLt)

variable (q e : Table F)

/-- A chunk's semaphores' counters at zero, its rows of the queue, and its rows of the result. -/
abbrev SIn (r : Fin 14) : sProp 𝕄 := Sem0 c (inSem (slotM r) (slotM_lt r))
/-- The semaphore on which a chunk goes out, at zero. -/
abbrev SOut (r : Fin 14) : sProp 𝕄 := Sem0 c (outSem (slotM r) (slotM_lt r))
/-- A chunk's rows of the queue. -/
abbrev QM (r : Fin 14) : sProp 𝕄 := Held c (qChunk v0 r) q (baseM v0 r)
/-- A split chunk's rows of the queue. -/
abbrev QS (u : Fin 2) : sProp 𝕄 := Held c (sChunk v0 qM u) q (baseS v0 u)
/-- A chunk's rows of the result. -/
abbrev OM (r : Fin 14) : sProp 𝕄 := Held c (oChunk v0 hw r) (merged v0 q e) (baseM v0 r)
/-- A split chunk's rows of the result. -/
abbrev OS (u : Fin 2) : sProp 𝕄 := Held c (sChunk v0 oM u) (merged v0 q e) (baseS v0 u)
/-- A chunk on its way out. -/
abbrev Going (r : Fin 14) : sProp 𝕄 := OutFlight c v0 hw r (merged v0 q e) (baseM v0 r)

/-- The queue held is its sixteen chunks held. -/
theorem queue_list : Held c qM q 0 = (bigSep Finset.univ fun t => Sum.elim (QM c v0 q) (QS c v0 q) t : sProp 𝕄) := by
  rw [held_chunks c v0 qM q]
  exact congrArg _ (funext fun t => by cases t <;> rfl)
/-- The result held is its sixteen chunks held. -/
theorem result_list : Held c oM (merged v0 q e) 0 = (bigSep Finset.univ fun t => Sum.elim (OM c v0 hw q e) (OS c v0 q e) t : sProp 𝕄) := by
  rw [held_chunks c v0 oM]
  exact congrArg _ (funext fun t => by
    cases t with
    | inl r => show _ = Held c (oChunk v0 hw r) _ _; rw [oChunk_eq]; rfl
    | inr u => rfl)
/-- The result owned is its sixteen chunks owned. -/
theorem result_own : Own (F := F) c oM = (bigSep Finset.univ fun t => Sum.elim (fun r => Own c (oChunk v0 hw r)) (fun u => Own c (sChunk v0 oM u)) t : sProp 𝕄) := by
  rw [own_chunks c v0 oM]
  exact congrArg _ (funext fun t => by
    cases t with
    | inl r => show _ = Own c (oChunk v0 hw r); rw [oChunk_eq]; rfl
    | inr u => rfl)

/-- The split chunks' slots are slots of other chunks. -/
theorem slot_zero : bChunk 6 = slot (slotS 0) (slotS_lt 0) := slot_congr rfl (slotM_lt 6) (slotS_lt 0)
/-- The slot of the second split chunk is the slot of the chunk at position 8. -/
theorem slot_one : bChunk 7 = slot (slotS 1) (slotS_lt 1) := slot_congr rfl (slotM_lt 7) (slotS_lt 1)
/-- The first split chunk's semaphore out is that of the chunk at position 7. -/
theorem outSem_zero : outSem (slotM 6) (slotM_lt 6) = outSem (slotS 0) (slotS_lt 0) := outSem_congr rfl (slotM_lt 6) (slotS_lt 0)
/-- The second split chunk's semaphore out is that of the chunk at position 8. -/
theorem outSem_one : outSem (slotM 7) (slotM_lt 7) = outSem (slotS 1) (slotS_lt 1) := outSem_congr rfl (slotM_lt 7) (slotS_lt 1)

/-! ## A chunk through its slot -/

/-- A chunk arrives, goes out, and the slot's next chunk is started. -/
theorem wp_turn (r r' : Fin 14) (hs : slotM r = slotM r') (hr : 32768 ≤ relM r) (Q : PUnit → sProp 𝕄) :
    iprop(Coming c v0 hw q r ∗ Own c (oChunk v0 hw r) ∗ SOut c r ∗ QM c v0 q r' ∗ Owes c)
      ⊢ iprop(((QM c v0 q r ∗ OM c v0 hw q e r ∗ Coming c v0 hw q r' ∗ SOut c r' ∗ Owes c) -∗ Q ⟨⟩)
        -∗ run c (waitIn v0 hw r) fun _ => run c (pass v0 hw r r') Q) := by
  iintro ⟨HC, Ho, HS, Hq, HO⟩ Hk
  iapply (wp_waitMid c v0 hw q e r hr) $$ [$HC $HO]
  iintro ⟨Hb, Hq', HI, HO⟩
  iapply (wp_pass c v0 hw r r' hs (merged v0 q e) q (baseM v0 r) (baseM v0 r')) $$ [$Hb $Ho $HS $Hq $HI $HO]
  iintro ⟨Ho, HC, HS, HO⟩
  iapply Hk $$ [$Hq' $Ho $HC $HS $HO]

/-- A chunk arrives and is started out. -/
theorem wp_leave (r : Fin 14) (hr : 32768 ≤ relM r) (Q : PUnit → sProp 𝕄) :
    iprop(Coming c v0 hw q r ∗ Own c (oChunk v0 hw r) ∗ SOut c r ∗ Owes c)
      ⊢ iprop(((QM c v0 q r ∗ Going c v0 hw q e r ∗ SIn c r ∗ Owes c) -∗ Q ⟨⟩)
        -∗ run c (waitIn v0 hw r) fun _ => run c (startOut v0 hw r) Q) := by
  iintro ⟨HC, Ho, HS, HO⟩ Hk
  iapply (wp_waitMid c v0 hw q e r hr) $$ [$HC $HO]
  iintro ⟨Hb, Hq, HI, HO⟩
  iapply (wp_startOut c v0 hw r (merged v0 q e) (baseM v0 r)) $$ [$Hb $Ho $HS]
  iintro HG
  iapply Hk $$ [$Hq $HG $HI $HO]

/-- A chunk is out: its slot is free. -/
theorem wp_left (r : Fin 14) (Q : PUnit → sProp 𝕄) :
    iprop(Going c v0 hw q e r ∗ Owes c)
      ⊢ iprop(((OM c v0 hw q e r ∗ Own c (bChunk r) ∗ SOut c r ∗ Owes c) -∗ Q ⟨⟩) -∗ run c (waitOut v0 hw r) Q) := by
  iintro H Hk
  iapply (wp_waitOut c v0 hw r (merged v0 q e) (baseM v0 r)) $$ H
  iintro ⟨Ho, Hb, HS, HO⟩
  ihave Hb := (held_own c (bChunk r) (merged v0 q e) (baseM v0 r)) $$ Hb
  iapply Hk $$ [$Ho $Hb $HS $HO]

/-! ## All of them -/

/-- What the transfers use besides the queue, the result and the embeddings: the slots and the staging buffer at some contents, every
semaphore's counter at zero, nothing owed. -/
def Idle : sProp 𝕄 :=
  iprop(Own c bM ∗ Own c ebM ∗ (bigSep Finset.univ fun s : Fin 7 => Sem0 c (inSem s.val s.isLt)) ∗ (bigSep Finset.univ fun s : Fin 7 => Sem0 c (outSem s.val s.isLt))
    ∗ Sem0 c embSem ∗ (bigSep Finset.univ fun k => Sem0 c (fillSem k)) ∗ Owes c)

/-- The transfers: the result is the queue with the embeddings written at the pointer. -/
theorem wp_transfers (Q : PUnit → sProp 𝕄) :
    iprop(Held c qM q 0 ∗ Held c eM e 0 ∗ Own c oM ∗ Idle c)
      ⊢ iprop(((Held c qM q 0 ∗ Held c eM e 0 ∗ Held c oM (merged v0 q e) 0 ∗ Idle c) -∗ Q ⟨⟩) -∗ run c (transfers v0 hw) Q) := by
  unfold Idle
  iintro ⟨Hq, He, Ho, Hb, Heb, HI, HU, HE, HF, HO⟩ Hk
  ihave Hq := (Entails.of_eq ((queue_list c v0 q).trans (bigSep_kinds (QM c v0 q) (QS c v0 q) (fun _ => rfl) (fun _ => rfl)))) $$ Hq
  icases Hq with ⟨q0, q1, q2, q3, q4, q5, q6, q7, q8, q9, q10, q11, q12, q13, qa, qb⟩
  ihave Ho := (Entails.of_eq ((result_own c v0 hw).trans (bigSep_kinds (fun r => Own c (oChunk v0 hw r)) (fun u => Own c (sChunk v0 oM u)) (fun _ => rfl) (fun _ => rfl)))) $$ Ho
  icases Ho with ⟨o0, o1, o2, o3, o4, o5, o6, o7, o8, o9, o10, o11, o12, o13, oa, ob⟩
  ihave Hb := (Entails.of_eq ((own_slots c).trans (bigSep_slots fun s hs => Own c (slot s hs)))) $$ Hb
  icases Hb with ⟨b0, b1, b2, b3, b4, b5, b6⟩
  ihave HI := (Entails.of_eq (bigSep_slots fun s hs => Sem0 c (inSem s hs))) $$ HI
  icases HI with ⟨i0, i1, i2, i3, i4, i5, i6⟩
  ihave HU := (Entails.of_eq (bigSep_slots fun s hs => Sem0 c (outSem s hs))) $$ HU
  icases HU with ⟨u0, u1, u2, u3, u4, u5, u6⟩
  unfold transfers
  rw [run]; simp only [wp_bind]
  iapply (wp_startEmb c e) $$ [$He $Heb $HE]
  iintro HE
  iapply (wp_fill c v0 hw q 0) $$ [qa b6 HF]
  · isplitl [qa]; · iexact qa
    isplitl [b6]; · iapply (Entails.of_eq (congrArg (Own c) slot_zero)) $$ b6
    iexact HF
  iintro ca
  iapply (wp_startIn c v0 hw 0 q (baseM v0 0)) $$ [$q0 $b0 $i0]
  iintro c0
  iapply (wp_startIn c v0 hw 1 q (baseM v0 1)) $$ [$q1 $b1 $i1]
  iintro c1
  iapply (wp_startIn c v0 hw 2 q (baseM v0 2)) $$ [$q2 $b2 $i2]
  iintro c2
  iapply (wp_startIn c v0 hw 3 q (baseM v0 3)) $$ [$q3 $b3 $i3]
  iintro c3
  iapply (wp_startIn c v0 hw 4 q (baseM v0 4)) $$ [$q4 $b4 $i4]
  iintro c4
  iapply (wp_startIn c v0 hw 5 q (baseM v0 5)) $$ [$q5 $b5 $i5]
  iintro c5
  iapply (wp_turnS c v0 hw q 0) $$ [ca oa u6 HO]
  · isplitl [ca]; · iexact ca
    isplitl [oa]; · iexact oa
    isplitl [u6]; · iapply (Entails.of_eq (congrArg (Sem0 c) outSem_zero)) $$ u6
    iexact HO
  iintro ⟨qa, HF, ga, HO⟩
  iapply (wp_drain c v0 hw q e 0) $$ [$ga $HO]
  iintro ⟨oa, b6, u6, HO⟩
  ihave b6 := (Entails.of_eq (congrArg (Own c) slot_zero).symm) $$ b6
  ihave u6 := (Entails.of_eq (congrArg (Sem0 c) outSem_zero).symm) $$ u6
  iapply (wp_startIn c v0 hw 6 q (baseM v0 6)) $$ [$q6 $b6 $i6]
  iintro c6
  iapply (wp_turn c v0 hw q e 0 7 rfl (by decide)) $$ [$c0 $o0 $u0 $q7 $HO]
  iintro ⟨q0, o0, c7, u7, HO⟩
  iapply (wp_waitIn c v0 hw 1 q (baseM v0 1)) $$ [$c1 $HO]
  iintro ⟨b1, q1, i1, HO⟩
  iapply (wp_waitIn c v0 hw 2 q (baseM v0 2)) $$ [$c2 $HO]
  iintro ⟨b2, q2, i2, HO⟩
  iapply (wp_splice c v0 hw q e) $$ [$HE $b1 $b2 $HO]
  iintro ⟨He, b1, b2, Heb, HE, HO⟩
  iapply (wp_pass c v0 hw 1 8 rfl (merged v0 q e) q (baseM v0 1) (baseM v0 8)) $$ [$b1 $o1 $u1 $q8 $i1 $HO]
  iintro ⟨o1, c8, u8, HO⟩
  iapply (wp_pass c v0 hw 2 9 rfl (merged v0 q e) q (baseM v0 2) (baseM v0 9)) $$ [$b2 $o2 $u2 $q9 $i2 $HO]
  iintro ⟨o2, c9, u9, HO⟩
  iapply (wp_turn c v0 hw q e 3 10 rfl (by decide)) $$ [$c3 $o3 $u3 $q10 $HO]
  iintro ⟨q3, o3, c10, u10, HO⟩
  iapply (wp_turn c v0 hw q e 4 11 rfl (by decide)) $$ [$c4 $o4 $u4 $q11 $HO]
  iintro ⟨q4, o4, c11, u11, HO⟩
  iapply (wp_turn c v0 hw q e 5 12 rfl (by decide)) $$ [$c5 $o5 $u5 $q12 $HO]
  iintro ⟨q5, o5, c12, u12, HO⟩
  iapply (wp_turn c v0 hw q e 6 13 rfl (by decide)) $$ [$c6 $o6 $u6 $q13 $HO]
  iintro ⟨q6, o6, c13, u13, HO⟩
  iapply (wp_leave c v0 hw q e 7 (by decide)) $$ [$c7 $o7 $u7 $HO]
  iintro ⟨q7, g7, i7, HO⟩
  iapply (wp_left c v0 hw q e 7) $$ [$g7 $HO]
  iintro ⟨o7, b7, u7, HO⟩
  iapply (wp_fill c v0 hw q 1) $$ [qb b7 HF]
  · isplitl [qb]; · iexact qb
    isplitl [b7]; · iapply (Entails.of_eq (congrArg (Own c) slot_one)) $$ b7
    iexact HF
  iintro cb
  iapply (wp_leave c v0 hw q e 8 (by decide)) $$ [$c8 $o8 $u8 $HO]
  iintro ⟨q8, g8, i8, HO⟩
  iapply (wp_leave c v0 hw q e 9 (by decide)) $$ [$c9 $o9 $u9 $HO]
  iintro ⟨q9, g9, i9, HO⟩
  iapply (wp_leave c v0 hw q e 10 (by decide)) $$ [$c10 $o10 $u10 $HO]
  iintro ⟨q10, g10, i10, HO⟩
  iapply (wp_leave c v0 hw q e 11 (by decide)) $$ [$c11 $o11 $u11 $HO]
  iintro ⟨q11, g11, i11, HO⟩
  iapply (wp_leave c v0 hw q e 12 (by decide)) $$ [$c12 $o12 $u12 $HO]
  iintro ⟨q12, g12, i12, HO⟩
  iapply (wp_leave c v0 hw q e 13 (by decide)) $$ [$c13 $o13 $u13 $HO]
  iintro ⟨q13, g13, i13, HO⟩
  iapply (wp_turnS c v0 hw q 1) $$ [cb ob u7 HO]
  · isplitl [cb]; · iexact cb
    isplitl [ob]; · iexact ob
    isplitl [u7]; · iapply (Entails.of_eq (congrArg (Sem0 c) outSem_one)) $$ u7
    iexact HO
  iintro ⟨qb, HF, gb, HO⟩
  iapply (wp_left c v0 hw q e 8) $$ [$g8 $HO]
  iintro ⟨o8, b8, u8, HO⟩
  iapply (wp_left c v0 hw q e 9) $$ [$g9 $HO]
  iintro ⟨o9, b9, u9, HO⟩
  iapply (wp_left c v0 hw q e 10) $$ [$g10 $HO]
  iintro ⟨o10, b10, u10, HO⟩
  iapply (wp_left c v0 hw q e 11) $$ [$g11 $HO]
  iintro ⟨o11, b11, u11, HO⟩
  iapply (wp_left c v0 hw q e 12) $$ [$g12 $HO]
  iintro ⟨o12, b12, u12, HO⟩
  iapply (wp_left c v0 hw q e 13) $$ [$g13 $HO]
  iintro ⟨o13, b13, u13, HO⟩
  iapply (wp_drain c v0 hw q e 1) $$ [$gb $HO]
  iintro ⟨ob, b7, u7, HO⟩
  ihave b7 := (Entails.of_eq (congrArg (Own c) slot_one).symm) $$ b7
  ihave u7 := (Entails.of_eq (congrArg (Sem0 c) outSem_one).symm) $$ u7
  ihave Hq := (Entails.of_eq ((queue_list c v0 q).trans (bigSep_kinds (QM c v0 q) (QS c v0 q) (fun _ => rfl) (fun _ => rfl))).symm) $$ [$q0 $q1 $q2 $q3 $q4 $q5 $q6 $q7 $q8 $q9 $q10 $q11 $q12 $q13 $qa $qb]
  ihave Ho := (Entails.of_eq ((result_list c v0 hw q e).trans (bigSep_kinds (OM c v0 hw q e) (OS c v0 q e) (fun _ => rfl) (fun _ => rfl))).symm) $$ [$o0 $o1 $o2 $o3 $o4 $o5 $o6 $o7 $o8 $o9 $o10 $o11 $o12 $o13 $oa $ob]
  ihave Hb := (Entails.of_eq ((own_slots c).trans (bigSep_slots' fun s hs => Own c (slot s hs))).symm) $$ [$b7 $b8 $b9 $b10 $b11 $b12 $b13]
  ihave HI := (Entails.of_eq (bigSep_slots' fun s hs => Sem0 c (inSem s hs)).symm) $$ [$i7 $i8 $i9 $i10 $i11 $i12 $i13]
  ihave HU := (Entails.of_eq (bigSep_slots' fun s hs => Sem0 c (outSem s hs)).symm) $$ [$u7 $u8 $u9 $u10 $u11 $u12 $u13]
  iapply Hk $$ [$Hq $He $Ho $Hb $Heb $HI $HU $HE $HF $HO]

end Cert.Kernel.Hand

end
-- ==== Proof.Body.lean ====
/- The body's run: the pointer is read, the new pointer stored, the transfers run. Whole buffers, held at contents, are held
   at the tables of those contents. -/
module

public import proofs.«01_k».proof.Proof.Whole

@[expose] public section

noncomputable section

namespace Cert.Kernel.Hand

open Cert.Kernel Cert.Kernel.Gen
open Idealize.ShloMosaic Idealize.ShloMosaic.TcCoe Idealize.ShloMosaic.Tactic
open Idealize.SL
open Idealize.SL.BI (sProp Storable bigSep)
open scoped Idealize.SL.BI
open Idealize.SL.BI.BIBase Idealize.SL.BI.Laws Idealize.SL.ProofMode Idealize.SL.Sem
open Idealize.SL.RA

variable {F : FTy → Type} [FloatOps F]

local notation "𝕄" => MT nD τ sig Unit (Elt F) ℕ (Pipeline.UD sig nD τ) ℕ

/-! ## Tables of whole buffers -/

/-- The contents of a buffer of `n` rows, as a table. -/
def tableOf {n : ℕ} (hn : 0 < n) (v : (Rows n).Idx → Elt F .f32) : Table F :=
  fun i j => v (fun | 0 => ⟨i % n, Nat.mod_lt _ hn⟩ | 1 => ⟨j % 128, Nat.mod_lt _ (by decide)⟩)

/-- The table of a buffer's contents, read at an index's row and column, is the contents at that index. -/
theorem tableOf_apply {n : ℕ} (hn : 0 < n) (v : (Rows n).Idx → Elt F .f32) (x : (Rows n).Idx) : tableOf hn v (x 0).val (x 1).val = v x := by
  unfold tableOf
  refine congrArg v (funext fun a => ?_)
  match a with
  | 0 => exact Fin.ext (Nat.mod_eq_of_lt (x 0).isLt)
  | 1 => exact Fin.ext (Nat.mod_eq_of_lt (x 1).isLt)

/-- The contents a table names. -/
def contentsOf (n : ℕ) (f : Table F) : (Rows n).Idx → Elt F .f32 := fun x => f (x 0).val (x 1).val

variable (c : Dev nD)

/-- A memref held at a table is owned at the contents the table names. -/
theorem held_owns {sp : Space} {n : ℕ} (m : Memref sig .tc sp (Rows n) .f32) (f : Table F) :
    Held c m f 0 = (owns (c : Thread nD τ) m fullShare (contentsOf n f) : sProp 𝕄) := by
  unfold Held owns contentsOf
  simp only [Nat.zero_add, funext_iff]

/-- A memref held at some contents is owned at some contents. -/
theorem own_owns {sp : Space} {n : ℕ} (m : Memref sig .tc sp (Rows n) .f32) :
    Own c m = (iprop(∃ X, owns (c : Thread nD τ) m fullShare X) : sProp 𝕄) := by
  have h₁ : Own c m ⊢ (iprop(∃ X, owns (c : Thread nD τ) m fullShare X) : sProp 𝕄) := by
    unfold Own owns
    iintro ⟨%v, H⟩
    iexists _, v
    isplitr
    · ipureintro; rfl
    · iexact H
  have h₂ : (iprop(∃ X, owns (c : Thread nD τ) m fullShare X) : sProp 𝕄) ⊢ Own c m := by
    unfold Own owns
    iintro ⟨%X, %v, -, H⟩
    iexists v
    iexact H
  exact BI.equiv_iff.mp ⟨h₁, h₂⟩

/-- The contents of the table of a buffer's contents. -/
theorem contents_table {n : ℕ} (hn : 0 < n) (v : (Rows n).Idx → Elt F .f32) : contentsOf n (tableOf hn v) = v :=
  funext fun x => tableOf_apply hn v x

/-! ## The body -/

/-- The one word of a buffer of one word. -/
abbrev R1 : Rect S1 := Rect.unit (s := S1) ![0] S1.size inb_S1_S1_0

/-- A buffer of one word has one index. -/
theorem idx_one (x y : S1.Idx) : x = y := funext fun a => by
  match a with
  | 0 => exact Fin.ext (by have := (x 0).isLt; have := (y 0).isLt; show (x 0).val = (y 0).val; have h : S1.size 0 = 1 := rfl; omega)

/-- The body, from its buffers to its buffers: the queue, the embeddings and the pointer are unchanged; the result is the queue with the
embeddings written at the pointer; the new pointer is stored. -/
theorem wp_prog (arg0 arg4 : Memref sig .tc .smem S1 .i32) (w : BitVec 32) (q e : Table F) (Q : PUnit → sProp 𝕄) :
    iprop(owns (c : Thread nD τ) arg0 fullShare (fun _ => w) ∗ (∃ Y, owns (c : Thread nD τ) arg4 fullShare Y)
        ∗ Held c qM q 0 ∗ Held c eM e 0 ∗ Own c oM ∗ Idle c)
      ⊢ iprop(((owns (c : Thread nD τ) arg0 fullShare (fun _ => w) ∗ owns (c : Thread nD τ) arg4 fullShare (fun _ => newPtr w)
          ∗ Held c qM q 0 ∗ Held c eM e 0 ∗ Held c oM (merged w q e) 0 ∗ Idle c) -∗ Q ⟨⟩) -∗ run c (prog arg0 arg4) Q) := by
  unfold owns
  iintro ⟨⟨%f, %hf, H0⟩, ⟨%Y, %g, -, H4⟩, Hq, He, Ho, HI⟩ Hk
  unfold prog
  rw [run]; simp only [wp_bind, smemLoad, Prog.lift]
  iapply (wp_smemLoadElt_named Variants.none (c : Thread nD τ) none Set.univ (S := arg0.view.set) (f := f) (q := fullShare) (m := arg0) (r := R1)
    (View.set_slice_subset _ _)) $$ H0
  iintro H0 %v %hv
  rw [show v = w from hv.trans (congrFun hf _)]
  rw [wp_ret]; imodintro
  iapply (wp_assume Variants.none (c : Thread nD τ) none Set.univ (chk1 w))
  rw [wp_ret]; imodintro
  iapply (wp_smemLoadElt_named Variants.none (c : Thread nD τ) none Set.univ (S := arg4.view.set) (f := g) (q := fullShare) (m := arg4) (r := R1)
    (View.set_slice_subset _ _)) $$ H4
  iintro H4 %v' -
  rw [wp_ret]; imodintro
  iapply (wp_store Variants.none (c : Thread nD τ) none Set.univ (S := arg4.view.set) (f := g) (m := arg4) (r := R1)
    ((View.setOn_subset_set _ _).trans (View.set_slice_subset _ _))) $$ H4
  iintro H4
  rw [wp_ret]; imodintro
  iapply (wp_transfers c w (chk1 w) q e) $$ [$Hq $He $Ho $HI]
  iintro ⟨Hq, He, Ho, HI⟩
  iapply Hk
  isplitl [H0]
  · iexists f
    isplitr
    · ipureintro; exact hf
    · iexact H0
  isplitl [H4]
  · iexists _
    isplitr
    rotate_left
    · iexact H4
    · ipureintro
      funext x
      rw [idx_one x (R1.emb (Shape.Idx.first (by decide)))]
      exact congrFun (View.read_write_univ (v := arg4.access R1) (Val := Elt F) g (fun _ => newPtr w)) (Shape.Idx.first (by decide))
  iframe Hq He Ho HI

end Cert.Kernel.Hand

end
-- ==== Proof.Run.lean ====
/- The launch: from any contents the program ends with the result at the queue with the embeddings written at the pointer, the new
   pointer stored, the three arguments unchanged and every semaphore's counter at zero. -/
module

public import Idealize.ShloMosaic.Lib.Pipeline.Value
public import proofs.«01_k».proof.Proof.Body
public import proofs.«01_k».proof.Proof.Gen.Kernel.Launch
public import proofs.«01_k».proof.Proof.Gen.Kernel.Points
public import Idealize.ShloMosaic.Lib.Pipeline.FrameValue

@[expose] public section

noncomputable section

namespace Cert.Kernel.Hand

open Cert.Kernel Cert.Kernel.Gen
open Idealize.ShloMosaic Idealize.ShloMosaic.TcCoe Idealize.ShloMosaic.Tactic
open Idealize.SL
open Idealize.SL.BI (sProp Storable bigSep)
open scoped Idealize.SL.BI
open Idealize.SL.BI.BIBase Idealize.SL.BI.Laws Idealize.SL.ProofMode Idealize.SL.Sem
open Idealize.SL.RA
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The contents at the start and at the end -/

/-- A core's buffers at the launch. -/
abbrev V0 (c : Dev nD) (b : Ref sig .tc) : Buf (Elt F) ((c : Thread nD τ).loc b) := m ((c : Thread nD τ).loc b)

/-- The pointer a core is launched with. -/
def ptrOf (c : Dev nD) : BitVec 32 := V0 m c main_arg1 (Shape.Idx.first (by decide) : S1.Idx)
/-- The queue a core is launched with. -/
def queueT (c : Dev nD) : Table F := tableOf (n := 262144) (by decide) (V0 m c main_arg0)
/-- The embeddings a core is launched with. -/
def embT (c : Dev nD) : Table F := tableOf (n := 4096) (by decide) (V0 m c main_arg2)

/-- The result: the queue with the embeddings written at the pointer. -/
def newQueue (c : Dev nD) : Buf (Elt F) ((c : Thread nD τ).loc main_v0_0) := contentsOf 262144 (merged (ptrOf m c) (queueT m c) (embT m c))

/-- A core's buffers at the end: the result written. -/
def G0 (c : Dev nD) : (b : Ref sig .tc) → Buf (Elt F) ((c : Thread nD τ).loc b) := Function.update (V0 m c) main_v0_0 (newQueue m c)

/-! ## The launch's set-up -/

/-- The buffer that the body writes itself. -/
def R0 : Finset (Ref sig .tc) := {main_v0_0}
/-- The buffers that the body's transfers read. -/
def H0 : Finset (Ref sig .tc) := {main_arg0, main_arg2}
/-- The buffers read are no staging buffers of the pipeline. -/
theorem H0_sub : H0 ⊆ Pipeline.restRefs sig spec0 := by decide
/-- The buffer written is no staging buffer of the pipeline and is not read. -/
theorem R0_sub : R0 ⊆ Pipeline.restRefs sig spec0 \ H0 := by decide

/-- The body's own semaphores. -/
abbrev Cells : Type := Fin 7 ⊕ Fin 7 ⊕ Fin 1 ⊕ Fin 4
/-- Where each of the body's own semaphores lies. -/
abbrev osem0 : Cells → SemLoc sig :=
  Sum.elim (fun s => .dma (inSem s.val s.isLt)) (Sum.elim (fun s => .dma (outSem s.val s.isLt)) (Sum.elim (fun _ => .dma embSem) (fun k => .dma (fillSem k))))
/-- The body's own semaphores are different ones, and none is the pipeline's. -/
theorem ownSemFacts0 : Pipeline.OwnSemFacts spec0 osem0 := by decide

variable (c : Dev nD)

/-- The body's own semaphores at zero, listed by their four families. -/
theorem ownSems0_list :
    (Pipeline.ownSems0 (Ix := Unit) (Name := ℕ) (U := Pipeline.UD sig nD τ) (Lvl := ℕ) (Val := Elt F) (τ := τ) osem0 c : sProp 𝕄)
      = iprop((bigSep Finset.univ fun s : Fin 7 => Sem0 c (inSem s.val s.isLt)) ∗ (bigSep Finset.univ fun s : Fin 7 => Sem0 c (outSem s.val s.isLt))
          ∗ Sem0 c embSem ∗ (bigSep Finset.univ fun k => Sem0 c (fillSem k))) := by
  unfold Pipeline.ownSems0
  rw [BI.bigSep_univ_sum, BI.bigSep_univ_sum, BI.bigSep_univ_sum, BI.bigSep_univ_eq_bigSepL ([0] : List (Fin 1)) (by decide) (by decide)]
  rfl

/-- The entry point is the one pipeline's region. -/
theorem hmain (𝒱₀ : Variants) : Pipeline.HMain (Ix := Unit) (Name := ℕ) (U := Pipeline.UD sig nD τ) (Lvl := ℕ) cfgs 0 defs₀ 𝒱₀ m (main (F := F)) (V0 m) :=
  Pipeline.hmain_region cfgs 0 defs₀ 𝒱₀ m main fun c => (main_chain c).trans rfl

/-- What the body is run from and what it leaves, the result's contents apart: the staging buffers, the generator register, the semaphores,
the queue and the embeddings. -/
def Inv (G : (c : Dev nD) → (b : Ref sig .tc) → Buf (Elt F) ((c : Thread nD τ).loc b)) : sProp 𝕄 := Pipeline.ΦDRG osem0 spec0 H0 R0 (V0 m) G c

/-- The invariant as a list: scratch buffers, generator register, semaphores, the queue, the embeddings and the result. -/
theorem inv_list (G : (c : Dev nD) → (b : Ref sig .tc) → Buf (Elt F) ((c : Thread nD τ).loc b)) :
    Inv m c G = iprop((Own c bM ∗ Own c ebM) ∗ (∃ r, prngReg c r)
      ∗ ((bigSep Finset.univ fun s : Fin 7 => Sem0 c (inSem s.val s.isLt)) ∗ (bigSep Finset.univ fun s : Fin 7 => Sem0 c (outSem s.val s.isLt))
          ∗ Sem0 c embSem ∗ (bigSep Finset.univ fun k => Sem0 c (fillSem k)))
      ∗ (owns (c : Thread nD τ) qM fullShare (V0 m c main_arg0) ∗ owns (c : Thread nD τ) eM fullShare (V0 m c main_arg2))
      ∗ owns (c : Thread nD τ) oM fullShare (G c main_v0_0)) := by
  unfold Inv
  rw [Pipeline.ΦDRG_eq, ownSems0_list, scopedRest0_eq, own_owns, own_owns]
  unfold Pipeline.routed R0 H0
  rw [BI.bigSep_singleton, BI.bigSep_eq_bigSepL_of_eq [main_arg0, main_arg2] (by decide) (by decide)]
  simp only [owns_whole]
  rfl

/-- The proof data of the launch's one pipeline: the pointer's buffer unchanged, the new pointer in its own, the invariant above with the
result as found before the body and written after it. -/
def dats (_ : Fin 1) (c : Dev nD) : Dat τ (Elt F) Unit ℕ (Pipeline.UD sig nD τ) ℕ cfg0 c where
  A w := V0 m c (Pipeline.arrRef spec0 w)
  after w t := match w with
    | ⟨0, _⟩ => iblk m c 0 t
    | ⟨1, _⟩ => fun _ => newPtr (ptrOf m c)
  Φ t := Inv m c (if t.val = 0 then V0 m else G0 m)
  q _ := fullShare
  owed _ := 0

/-- The pipeline's arrays at the launch are the core's buffers. -/
theorem A_eq (c : Dev nD) (w : Fin cfg0.W) : (dats m 0 c).A w = V0 m c (Pipeline.arrRef spec0 w) := by dsimp only [dats]
/-- The body leaves the pointer's block as it was. -/
theorem after0_0 (t : Fin cfg0.N) : (dats m 0 c).after 0 t = iblk m c 0 t := by dsimp only [dats]
/-- The body leaves the new pointer in its block. -/
theorem after0_1 (t : Fin cfg0.N) : (dats m 0 c).after 1 t = fun _ => newPtr (ptrOf m c) := by dsimp only [dats]
/-- The body finds the pointer's block. -/
theorem before0_0 (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

/-- The pointer's block is the pointer. -/
theorem iblk_ptr (t : Fin cfg0.N) : iblk m c 0 t = fun _ => ptrOf m c := by
  funext x
  unfold iblk ptrOf
  refine congrArg (V0 m c main_arg1) (idx_one _ _)

/-- The invariant before the one point. -/
theorem phi_before (t : Fin cfg0.N) : (dats m 0 c).Φ t.castSucc = Inv m c (V0 m) := by
  have h : t.val = 0 := by have := t.isLt; have h : cfg0.N = 1 := N_0; omega
  show Inv m c (if t.val = 0 then V0 m else G0 m) = _
  rw [if_pos h]
/-- The invariant after the one point: the result is written. -/
theorem phi_after (t : Fin cfg0.N) : (dats m 0 c).Φ t.succ = Inv m c (G0 m) := by
  show Inv m c (if t.val + 1 = 0 then V0 m else G0 m) = _
  rw [if_neg (Nat.succ_ne_zero _)]

/-- What the body is run from at a point. -/
def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
/-- What the body leaves at a point. -/
def bodyPost (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The queue's buffer owned is the queue held as a table. -/
theorem held_queue : (owns (c : Thread nD τ) qM fullShare (V0 m c main_arg0) : sProp 𝕄) = Held c qM (queueT m c) 0 :=
  ((held_owns c qM (queueT m c)).trans (congrArg (owns (c : Thread nD τ) qM fullShare) (contents_table (n := 262144) (by decide) (V0 m c main_arg0)))).symm
/-- The embeddings' buffer owned is the embeddings held as a table. -/
theorem held_emb : (owns (c : Thread nD τ) eM fullShare (V0 m c main_arg2) : sProp 𝕄) = Held c eM (embT m c) 0 :=
  ((held_owns c eM (embT m c)).trans (congrArg (owns (c : Thread nD τ) eM fullShare) (contents_table (n := 4096) (by decide) (V0 m c main_arg2)))).symm
/-- The result's buffer owned at the end is the merged table held. -/
theorem held_result : (owns (c : Thread nD τ) oM fullShare (G0 m c main_v0_0) : sProp 𝕄) = Held c oM (merged (ptrOf m c) (queueT m c) (embT m c)) 0 := by
  rw [held_owns]; unfold G0; rw [Function.update_self]; rfl

/-- The body, run from what it finds at the one point, leaves what it should. -/
theorem sound_body (t : Fin cfg0.N) : bodyPre m c t ⊢ run c (bodyAt0 t) (fun _ => bodyPost m c t) := by
  unfold bodyPre bodyPost bodyAt0
  rw [phi_before, phi_after, after0_0, after0_1, iblk_ptr, inv_list, inv_list, held_queue, held_emb, held_result, body_eq]
  unfold Dat.owesAt Pipeline.owesWithin
  rw [show (dats m 0 c).owed t.castSucc = 0 from rfl, show (dats m 0 c).owed t.succ = 0 from rfl]
  iintro ⟨⟨⟨Hb, Heb⟩, Hg, ⟨HI, HU, HE, HF⟩, ⟨Hq, He⟩, Ho⟩, ⟨%W, -, HW⟩, ⟨%d0, H0⟩, ⟨%d1, H1⟩⟩
  ihave H0 := (Entails.of_eq (congrArg (owns (c : Thread nD τ) (st0_0 t) fullShare) ((before0_0 m c t d0).trans (iblk_ptr m c t)))) $$ H0
  have hI : iprop((Own c bM ∗ Own c ebM ∗ (bigSep Finset.univ fun s : Fin 7 => Sem0 c (inSem s.val s.isLt)) ∗ (bigSep Finset.univ fun s : Fin 7 => Sem0 c (outSem s.val s.isLt))
      ∗ Sem0 c embSem ∗ (bigSep Finset.univ fun k => Sem0 c (fillSem k)) ∗ owes (c : Thread nD τ) 0 W)) ⊢ (Idle c : sProp 𝕄) := by
    unfold Idle Owes
    iintro ⟨Hb, Heb, HI, HU, HE, HF, HW⟩
    iframe Hb Heb HI HU HE HF
    iexists W
    iexact HW
  ihave HI := hI $$ [$Hb $Heb $HI $HU $HE $HF $HW]
  have ho : owns (c : Thread nD τ) oM fullShare (V0 m c main_v0_0) ⊢ (Own c oM : sProp 𝕄) := by
    rw [own_owns]; iintro H; iexists _; iexact H
  ihave Ho := ho $$ Ho
  iapply (wp_prog c (st0_0 t) (st0_1 t) (ptrOf m c) (queueT m c) (embT m c)) $$ [H0 H1 Hq He Ho HI]
  · isplitl [H0]; · iexact H0
    isplitl [H1]; · iexists _; iexact H1
    iframe Hq He Ho HI
  iintro ⟨H0, H1, Hq, He, Ho, HI⟩
  unfold Idle Owes
  icases HI with ⟨Hb, Heb, HI, HU, HE, HF, ⟨%W', HW⟩⟩
  iframe Hb Heb Hg HI HU HE HF Hq He Ho
  isplitl [HW]
  · iexists W'; isplitr
    · ipureintro; exact fun _ _ => Or.inl trivial
    · iexact HW
  isplitl [H0]; · iexact H0
  iexact H1

/-- The pipeline's body at a point is the printed body on that point's buffers. -/
theorem defs₀_row (t : Fin cfg0.N) : defs₀ (F := F) .tc cfg0.body (cfg0.bodyArgs t (cfg0.slots t)) = bodyAt0 t := by
  unfold defs₀; rw [Defs.onTc_tc]

/-- The body meets the pipeline's obligation at every point. -/
theorem body_obligation : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- From any contents, the run ends with every buffer as the pipeline's data say, the result written, and every semaphore's counter at zero. -/
theorem run_main : θ_run defs (onTc (τ := τ) (main (F := F))) (s₀ m ρ) (fun r => Pipeline.FramePostRG cfgs (dats m) 0 R0 (V0 m) (G0 m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V0 m) (hmain := hmain m Variants.none) (hA := A_eq m) (G := G0 m)
    (hin := fun _ => .rfl) (hout := fun _ => .rfl)

/-! ## What the run ends with -/

/-- The new pointer's array at the end. -/
theorem arr_ptr : (dats m 0 c).arrAt 1 cfg0.N = fun _ => newPtr (ptrOf m c) :=
  (dats m 0 c).arrAt_eq_of_cover 1 (fun _ => newPtr (ptrOf m c))
    (fun t _ => by unfold Dat.flushed; rw [after0_1]; rfl)
    (fun i => ⟨t0_0, flush0_1 _, by
      have h := View.emb_mem_set ((cfg0.win 1).blk t0_0).view (Shape.Idx.first (by decide) : S1.Idx)
      have e : ((cfg0.win 1).blk t0_0).view.emb (Shape.Idx.first (by decide) : S1.Idx) = i := idx_one _ i
      exact e ▸ h⟩)

/-- From any contents: the result is the queue with the embeddings written at the pointer, the new pointer is the pointer advanced by 4096
modulo 262144, the arguments are unchanged and every semaphore's counter is zero. -/
theorem ends : θ_run defs (onTc (τ := τ) (main (F := F))) ⟨m, fun _ => 0, ρ⟩ (fun r => (∀ c : Dev nD,
      r.2.mem ((c.tc : Thread nD τ).loc main_v0_0) = newQueue m c
      ∧ r.2.mem ((c.tc : Thread nD τ).loc main_v0_1) = (fun _ => newPtr (ptrOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1.written c (b := main_v0_0) (by decide)).trans (Function.update_self ..),
      ((h.1.toR c).1 1).trans (arr_ptr m c),
      (h.1.toR c).2 main_arg0 (Finset.mem_sdiff.mpr ⟨Pipeline.mem_restRefs_of main_arg0 (by decide) (by decide), by decide⟩),
      ((h.1.toR c).1 0).trans (((dats m 0 c).arrAt_in 0 rfl _).trans (A_eq m c 0)),
      (h.1.toR c).2 main_arg2 (Finset.mem_sdiff.mpr ⟨Pipeline.mem_restRefs_of main_arg2 (by decide) (by decide), by decide⟩)⟩, h.2⟩)
    (run_main m ρ)

end Cert.Kernel.Hand

end
-- ==== Proof.Transport.lean ====
/- The idealized program is the program's own text, so the two programs are equal at every float type; the run of the one is the run
   of the other. -/
module

public import proofs.«01_k».proof.Proof.Run
public import proofs.«01_k».proof.Proof.Gen.KernelIdeal.Frame

@[expose] public section

set_option maxRecDepth 100000
set_option maxHeartbeats 4000000

noncomputable section

namespace Cert.KernelIdeal.Hand

open Idealize.ShloMosaic Idealize.ShloMosaic.TcCoe Idealize.SL.Sem
open Cert.Kernel.Hand (newQueue newPtr ptrOf)

variable {F : FTy → Type} [FloatOps F]

/-- The two bodies are the same text. -/
theorem body_eq (arg0 : Memref Cert.Kernel.sig .tc .smem Cert.Kernel.S1 .i32) (harg0 : arg0.IsWhole) (arg1 : Memref Cert.Kernel.sig .tc .hbm Cert.Kernel.S262144x128 .f32) (harg1 : arg1.IsWhole) (arg2 : Memref Cert.Kernel.sig .tc .hbm Cert.Kernel.S4096x128 .f32) (harg2 : arg2.IsWhole) (arg3 : Memref Cert.Kernel.sig .tc .hbm Cert.Kernel.S262144x128 .f32) (harg3 : arg3.IsWhole) (arg4 : Memref Cert.Kernel.sig .tc .smem Cert.Kernel.S1 .i32) (harg4 : arg4.IsWhole) (arg5 : Memref Cert.Kernel.sig .tc .vmem Cert.Kernel.S114688x128 .f32) (harg5 : arg5.IsWhole) (arg6 : Memref Cert.Kernel.sig .tc .vmem Cert.Kernel.S4096x128 .f32) (harg6 : arg6.IsWhole) (arg7 : DmaSems Cert.Kernel.sig Cert.Kernel.S7) (arg8 : DmaSems Cert.Kernel.sig Cert.Kernel.S7) (arg9 : DmaSems Cert.Kernel.sig Cert.Kernel.S_) (arg10 : DmaSems Cert.Kernel.sig Cert.Kernel.S4) : Cert.KernelIdeal.cc0__body (F := F) arg0 harg0 arg1 harg1 arg2 harg2 arg3 harg3 arg4 harg4 arg5 harg5 arg6 harg6 arg7 arg8 arg9 arg10 = Cert.Kernel.cc0__body (F := F) arg0 harg0 arg1 harg1 arg2 harg2 arg3 harg3 arg4 harg4 arg5 harg5 arg6 harg6 arg7 arg8 arg9 arg10 := rfl

/-- The two tables of bodies are equal, body by body. -/
theorem defs₀_eq : Cert.KernelIdeal.defs₀ (F := F) = Cert.Kernel.defs₀ (F := F) := by
  refine congrArg Defs.onTc (funext fun l => ?_)
  match l with
  | 0 => exact funext fun a => by obtain ⟨t, s⟩ := a; exact body_eq _ _ _ _ _ _ _ _ _ _ _ _ _ _ _ _ _ _
  | ⟨_ + 1, h⟩ => exact absurd h (Nat.not_lt.2 (Nat.le_add_left _ _))

/-- The two programs' definitions and entry points are equal. -/
theorem defs_eq : Cert.KernelIdeal.defs (F := F) = Cert.Kernel.defs (F := F) := congrArg (Pipeline.defs (Cert.Kernel.pcfgs (F := F))) defs₀_eq
/-- The two programs' entry points are equal. -/
theorem main_eq : Cert.KernelIdeal.main (F := F) = Cert.Kernel.main (F := F) := rfl

/-- The idealized program ends as the program does: the result is the queue with the embeddings written at the pointer, the new
pointer is stored, the arguments are unchanged and every semaphore's counter is zero. -/
theorem ends (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_v0_0) = newQueue m c
      ∧ r.2.mem ((c.tc : Thread nD τ).loc main_v0_1) = (fun _ => newPtr (ptrOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq]
  exact Cert.Kernel.Hand.ends (F := F) m ρ

end Cert.KernelIdeal.Hand

end
-- ==== Proof.Reference.lean ====
/- The reference: its update of a slice at a nonnegative pointer, and its remainder, are the queue and the pointer the kernel ends
   with; and its run's semaphores, of which it declares none. -/
module

public import proofs.«01_k».proof.Proof.Body
public import proofs.«01_k».proof.Proof.Gen.ReferenceIdeal.Run
public import proofs.«01_k».proof.Pre_pointer_not_negative
public import Idealize.ShloMosaic.Lib.Quiescent

@[expose] public section

noncomputable section

namespace Cert.ReferenceIdeal.Hand

open Cert.ReferenceIdeal Cert.ReferenceIdeal.Gen
open Idealize.ShloMosaic Idealize.ShloMosaic.TcCoe Idealize.SL.Sem
open Cert.Kernel.Hand (Rows Table tableOf tableOf_apply contentsOf merged ptrN newPtr floorMod idx_one)

variable {F : FTy → Type} [FloatOps F]

/-- Writing the embeddings over the queue's rows from the pointer on, clamped so that they fit. -/
theorem updateSlice_eq (x : (Rows 262144).Idx → Elt F .f32) (u : (Rows 4096).Idx → Elt F .f32) (w : BitVec 32) (st : Fin 2 → ℕ)
    (h0 : st 0 = ptrN w) (h1 : st 1 = 0) (h : (Rows 262144).Slices st (Rows 4096)) :
    updateSlice x u st h = contentsOf 262144 (merged w (tableOf (by decide) x) (tableOf (by decide) u)) := by
  funext i
  have hi : (i 1).val < 128 := (i 1).isLt
  unfold updateSlice contentsOf merged
  by_cases hin : ptrN w ≤ (i 0).val ∧ (i 0).val < ptrN w + 4096
  · have hH : ∀ a : Fin 2, st a ≤ (i a).val ∧ (i a).val < st a + (Rows 4096).size a := fun a => by
      match a with
      | 0 => exact ⟨h0 ▸ hin.1, by show _ < st 0 + 4096; omega⟩
      | 1 => exact ⟨h1 ▸ Nat.zero_le _, by show _ < st 1 + 128; omega⟩
    rw [if_pos hin]
    refine (dif_pos hH).trans ?_
    let k : (Rows 4096).Idx := fun b => ⟨(i b).val - st b, by have := hH b; omega⟩
    have e := tableOf_apply (n := 4096) (by decide) u k
    have k0 : (k 0).val = (i 0).val - ptrN w := congrArg ((i 0).val - ·) h0
    have k1 : (k 1).val = (i 1).val := congrArg ((i 1).val - ·) h1
    rw [k0, k1] at e
    exact e.symm
  · rw [if_neg hin]
    refine (dif_neg fun H => hin ?_).trans (tableOf_apply _ x i).symm
    have := H 0
    rw [h0] at this
    exact this

/-- Updating the slice of the queue that starts at a row, clamped so that it fits, writes the embeddings there. -/
theorem update_eq (x : (Rows 262144).Idx → Elt F .f32) (u : (Rows 4096).Idx → Elt F .f32) (start : Fin 2 → ℤ) (w : BitVec 32)
    (h0 : start 0 = w.toInt) (h1 : start 1 = 0) (h : (Rows 262144).Slices (fun _ => 0) (Rows 4096)) :
    Host.dynamicUpdateSlice x u start h
      = contentsOf 262144 (merged w (tableOf (by decide) x) (tableOf (by decide) u)) := by
  have e0 : (min (max (start 0) 0) ((262144 - 4096 : ℕ) : ℤ)).toNat = ptrN w := by rw [h0]; unfold ptrN; omega
  have e1 : (min (max (start 1) 0) ((128 - 128 : ℕ) : ℤ)).toNat = 0 := by rw [h1]; rfl
  unfold Host.dynamicUpdateSlice
  exact updateSlice_eq x u w _ e0 e1 _

/-- The host's remainder by 262144 is the scalar unit's: that divisor is no corner of the division. -/
theorem remsi_host (x : BitVec 32) : IntOp.remsi .host x 262144#32 = Scalar.remsi x 262144#32 := by
  have hc : ¬ IntOp.SDivCorner x 262144#32 := fun h => h.elim (by decide) fun h => absurd h.2 (by decide)
  unfold Scalar.remsi IntOp.remsi
  rw [if_neg hc, if_neg hc]

/-- Two bits differ where their exclusive or is one. -/
theorem ne_bits (a b : BitVec 1) : IntOp.cmpi .ne a b = Scalar.xori a b := by revert a b; decide

/-- The reference's remainder, rounded towards minus infinity, is the kernel's. -/
theorem remainder_eq (p : BitVec 32) :
    Scalar.select
      (Scalar.andi
        (IntOp.cmpi .ne (IntOp.cmpi .slt (IntOp.remsi .host (p + 4096#32) 262144#32) 0#32) (IntOp.cmpi .slt 262144#32 0#32))
        (IntOp.cmpi .ne (IntOp.remsi .host (p + 4096#32) 262144#32) 0#32))
      (IntOp.remsi .host (p + 4096#32) 262144#32 + 262144#32) (IntOp.remsi .host (p + 4096#32) 262144#32) = newPtr p := by
  rw [remsi_host, ne_bits]
  rfl

/-- The precondition's side conditions. -/
instance preFacts : Cert.Pre_pointer_not_negative.Facts := ⟨by decide⟩

/-- The precondition says the pointer reads nonnegative. -/
theorem nonneg_of_pre (x0 : (Rows 262144).Idx → Elt F .f32) (x1 : S1.Idx → BitVec 32) (x2 : (Rows 4096).Idx → Elt F .f32)
    (h : Cert.Pre_pointer_not_negative.fn (F := F) x0 x1 x2 = fun _ => 1#1) : 0 ≤ (x1 (Shape.Idx.first (by decide))).toInt := by
  have e : IntOp.cmpi .sge (x1 (Shape.reshapeEquiv shapeCasts_S1_S_ (Shape.Idx.first h_S_))) 0#32 = 1#1 := congrFun h (Shape.Idx.first h_S_)
  rw [idx_one (Shape.reshapeEquiv shapeCasts_S1_S_ (Shape.Idx.first h_S_)) (Shape.Idx.first (by decide))] at e
  generalize x1 (Shape.Idx.first _) = p at e ⊢
  have e' : BitVec.ofBool ((0#32).sle p) = BitVec.ofBool true := e
  have e'' : (0#32).sle p = true := by
    cases hb : (0#32).sle p
    · rw [hb] at e'; exact absurd e' (by decide)
    · rfl
  simpa [BitVec.sle] using e''

variable (m : (ℓ : Loc nD τ sig) → Buf (Elt F) ℓ) (ρ : Dev nD → PrngReg)

/-- The pointer a core is launched with. -/
def ptrOf (c : Dev nD) : BitVec 32 := (show S1.Idx → BitVec 32 from m ((c.tc : Thread nD τ).loc main_arg1)) (Shape.Idx.first (by decide))

/-- From any contents whose pointers are nonnegative: the reference's result is the queue with the embeddings written at the pointer,
its new pointer is the pointer advanced by 4096 modulo 262144, and the arguments are unchanged. -/
theorem ends (hp : ∀ c, 0 ≤ (ptrOf m c).toInt) :
    θ_run (defs (F := F)) (onTc (τ := τ) (main (F := F))) ⟨m, fun _ => 0, ρ⟩ (fun r => ∀ c : Dev nD,
      r.2.mem ((c.tc : Thread nD τ).loc main_v4) = contentsOf 262144 (merged (ptrOf m c)
          (tableOf (n := 262144) (by decide) (m ((c.tc : Thread nD τ).loc main_arg0)))
          (tableOf (n := 4096) (by decide) (m ((c.tc : Thread nD τ).loc main_arg2))))
      ∧ r.2.mem ((c.tc : Thread nD τ).loc main_v7) = (fun _ => newPtr (ptrOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (Cert.ReferenceIdeal.Value.run m ρ)
  obtain ⟨h4, h7, ha⟩ := h c
  have hcast : ∀ j : S_.Idx, shapeCast S_ (m ((c.tc : Thread nD τ).loc main_arg1)) shapeCasts_S1_S_ j = ptrOf m c :=
    fun j => congrArg (m ((c.tc : Thread nD τ).loc main_arg1)) (idx_one _ _)
  refine ⟨h4.trans (update_eq _ _ _ (ptrOf m c) ?_ rfl _), h7.trans (funext fun j => ?_), ha⟩
  · refine congrArg BitVec.toInt (?_ : Scalar.select (IntOp.cmpi .slt (shapeCast S_ (m ((c.tc : Thread nD τ).loc main_arg1)) shapeCasts_S1_S_ (Shape.Idx.first h_S_)) 0#32) _ _ = _)
    have hn : (ptrOf m c).slt 0#32 = false := decide_eq_false (not_lt.mpr (hp c))
    have hs : IntOp.cmpi .slt (ptrOf m c) 0#32 = 0#1 := congrArg BitVec.ofBool hn
    rw [hcast, hs]
    rfl
  · refine Eq.trans ?_ (remainder_eq (ptrOf m c))
    rw [← hcast (Shape.reshapeEquiv shapeCasts_S_S1 j)]
    rfl

/-- The reference's frame: from any contents the arguments are unchanged and, no semaphore being declared, every counter is zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => (h c).2.2, sem_eq_zero_of_no_sems rfl r.2⟩) (Cert.ReferenceIdeal.Value.run m ρ)

end Cert.ReferenceIdeal.Hand

end
-- ==== Proof.lean ====
/- The proof of the certificate's claims: the kernel's run (Proof/Run.lean), the same run of its idealization (Proof/Transport.lean) and
   the reference's run (Proof/Reference.lean), put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Transport
public import proofs.«01_k».proof.Proof.Reference
public import Idealize.ShloMosaic.Adequacy
public import Idealize.ShloMosaic.Init

@[expose] public section

noncomputable section

namespace Cert.Proof

open Idealize.ShloMosaic Idealize.ShloMosaic.TcCoe Idealize.SL.Sem

/-- The kernel's frame: it ends with its arguments unchanged and every semaphore's counter at zero. -/
theorem frame_kernel : Cert.quiescent_Kernel (hKernel := Cert.Kernel.Gen.facts) := fun m g _ =>
  (θ_run _ _ _).mono (fun _ h => ⟨fun c => (h.1 c).2.2, h.2⟩) (Cert.Kernel.Hand.ends m g)

/-- The idealized kernel's frame. -/
theorem frame_ideal : Cert.quiescent_KernelIdeal (hKernelIdeal := Cert.KernelIdeal.Gen.facts) := fun m g _ =>
  (θ_run _ _ _).mono (fun _ h => ⟨fun c => (h.1 c).2.2, h.2⟩) (Cert.KernelIdeal.Hand.ends m g)

/-- The reference's frame. -/
theorem frame_reference : Cert.quiescent_ReferenceIdeal (hReferenceIdeal := Cert.ReferenceIdeal.Gen.facts) := fun m g _ =>
  Cert.ReferenceIdeal.Hand.frame m g

/-- Where the pointers are nonnegative, the idealized kernel and the reference end with equal queues and equal pointers. -/
theorem values : Cert.algebraic_KernelIdeal_ReferenceIdeal_pre_pointer_not_negative (hKernelIdeal := Cert.KernelIdeal.Gen.facts)
    (hReferenceIdeal := Cert.ReferenceIdeal.Gen.facts) (hPre_pointer_not_negative := Cert.ReferenceIdeal.Hand.preFacts) := by
  intro m g m' g' hpre hargs
  have hptr : ∀ c, Cert.ReferenceIdeal.Hand.ptrOf m' c = Cert.Kernel.Hand.ptrOf m c := fun c => congrFun (hargs c).2.1 _
  refine ⟨fun c => Cert.Kernel.Hand.newQueue m c, fun c _ => Cert.Kernel.Hand.newPtr (Cert.Kernel.Hand.ptrOf m c),
    (θ_run _ _ _).mono (fun _ h => h.1) (Cert.KernelIdeal.Hand.ends m g),
    (θ_run _ _ _).mono (fun _ h c => ?_) (Cert.ReferenceIdeal.Hand.ends m' g' fun c => by
      rw [hptr c]; exact Cert.ReferenceIdeal.Hand.nonneg_of_pre _ _ _ (hpre c))⟩
  obtain ⟨h4, h7, ha⟩ := h c
  rw [hptr c, (hargs c).1, (hargs c).2.2] at h4
  rw [hptr c] at h7
  exact ⟨h4, h7, ha⟩

/-- Every claim of the certificate. -/
theorem claim : Cert.Claim :=
  ⟨Cert.Kernel.Gen.facts, Cert.KernelIdeal.Gen.facts, Cert.ReferenceIdeal.Gen.facts, Cert.ReferenceIdeal.Hand.preFacts,
    frame_kernel, frame_ideal, fun m g _ => frame_ideal m g trivial, frame_reference, fun m g _ => frame_reference m g trivial,
    trivial, values⟩

end Cert.Proof

end
